-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_top_32_separated [hKernelIdeal : Cert.KernelIdeal.Facts] [hReferenceIdeal : Cert.ReferenceIdeal.Facts] [hOn_top_32_separated : Cert.On_top_32_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 7]⟩ : Shape).Idx, (Cert.On_top_32_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 7]⟩ : Shape).Idx, (Cert.On_top_32_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v57) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_top_32_separated : Cert.On_top_32_separated.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_top_32_separated (hKernelIdeal := hKernelIdeal) (hReferenceIdeal := hReferenceIdeal) (hOn_top_32_separated := hOn_top_32_separated)
-- ==== On_top_32_separated.lean ====
abbrev S8192x8 : Shape := ⟨2, ![8192, 8]⟩
abbrev S7x7 : Shape := ⟨2, ![7, 7]⟩
abbrev S7 : Shape := ⟨1, ![7]⟩
abbrev S8192x7 : Shape := ⟨2, ![8192, 7]⟩
abbrev S_ : Shape := ⟨0, ![]⟩
abbrev S8192 : Shape := ⟨1, ![8192]⟩
abbrev S7x8192 : Shape := ⟨2, ![7, 8192]⟩
abbrev S8192x8192 : Shape := ⟨2, ![8192, 8192]⟩
abbrev S8192x1 : Shape := ⟨2, ![8192, 1]⟩
abbrev S1x8192 : Shape := ⟨2, ![1, 8192]⟩
abbrev S8192x33 : Shape := ⟨2, ![8192, 33]⟩
abbrev S8192x32x256 : Shape := ⟨3, ![8192, 32, 256]⟩
abbrev S8192x256 : Shape := ⟨2, ![8192, 256]⟩

class Facts : Prop where
  slices_S8192x8_S8192x7_0_0 : S8192x8.Slices ![0, 0] S8192x7
  reducesTo_S8192x7_S8192_d1 : S8192x7.ReducesTo [1] S8192
  h_S_ : 0 < S_.numel
  transposes_S8192x7_S7x8192_1_0 : S8192x7.Transposes [1, 0] S7x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  sliceFits_S8192x8192_S8192x33 : S8192x8192.Slices (fun _ => 0) S8192x33
  bcast_S_S8192x33 : S_.BroadcastsInDim S8192x33 (![] : Fin 0 → Fin S8192x33.rank)
  slices_S8192x33_S8192x1_0_31 : S8192x33.Slices ![0, 31] S8192x1
  shapeCasts_S8192x1_S8192 : S8192x1.ShapeCasts S8192
  slices_S8192x33_S8192x1_0_32 : S8192x33.Slices ![0, 32] S8192x1
  natLt_1_32 : 1 < 32
  shapeCasts_S8192x8192_S8192x32x256 : S8192x8192.ShapeCasts S8192x32x256
  reducesTo_S8192x32x256_S8192x256_d1 : S8192x32x256.ReducesTo [1] S8192x256
  reducesTo_S8192x256_S8192_d1 : S8192x256.ReducesTo [1] S8192
  bcast_S_S8192 : S_.BroadcastsInDim S8192 (![] : Fin 0 → Fin S8192.rank)
  reducesTo_S8192_S_d0 : S8192.ReducesTo [0] S_
  bcast_S8192x1_S8192x7_0_1 : S8192x1.BroadcastsInDim S8192x7 (![0, 1] : Fin 2 → Fin S8192x7.rank)
  dot_S8192x7_S7x8192_S8192x8192_1_0_0_1_n_n_wf : DotDims.WF S8192x7 S7x8192 S8192x8192 [1] [0] [0] [1] [] []

variable [Facts]

def dot_S8192x7_S7x8192_S8192x8192_1_0_0_1_n_n : DotDims S8192x7 S7x8192 S8192x8192 where
  lhsContracting := [1]
  rhsContracting := [0]
  lhsNonContracting := [0]
  rhsNonContracting := [1]
  lhsBatch := []
  rhsBatch := []
  wf := dot_S8192x7_S7x8192_S8192x8192_1_0_0_1_n_n_wf
def fn_part2 {F : FTy → Type} [FloatOps F] (main_v36 : IVec S8192 1) : IVec S8192x7 1 :=
  let main_v37 : IVec S8192x1 1 := broadcastInDim S8192x1 ![0] bcast_S8192_S8192x1_0 main_v36
  let main_v38 : IVec S8192x7 1 := broadcastInDim S8192x7 ![0, 1] bcast_S8192x1_S8192x7_0_1 main_v37
  main_v38

def fn_part1 {F : FTy → Type} [FloatOps F] (main_v3 : FVec F S8192 .f32) (main_v11 : FVec F S8192x8192 .f32) (main_values : FVec F S8192x33 .f32) (main_v17 : FVec F S8192x33 .f32) : IVec S8192x7 1 :=
  let main_v18 : FVec F S8192x1 .f32 := (extractStridedSlice S8192x1 ![0, 31] · slices_S8192x33_S8192x1_0_31) main_v17
  let main_v19 : FVec F S8192 .f32 := shapeCast S8192 main_v18 shapeCasts_S8192x1_S8192
  let main_v20 : FVec F S8192x1 .f32 := (extractStridedSlice S8192x1 ![0, 32] · slices_S8192x33_S8192x1_0_32) main_v17
  let main_v21 : FVec F S8192 .f32 := shapeCast S8192 main_v20 shapeCasts_S8192x1_S8192
  let main_v22 : IVec S8192 1 := cmpf .ogt main_v19 main_v21
  let main_v23 : FVec F S8192x1 .f32 := (extractStridedSlice S8192x1 ![0, 31] · slices_S8192x33_S8192x1_0_31) main_values
  let main_v24 : FVec F S8192x8192 .f32 := broadcastInDim S8192x8192 ![0, 1] bcast_S8192x1_S8192x8192_0_1 main_v23
  let main_v25 : IVec S8192x8192 1 := cmpf .oge main_v11 main_v24
  let main_v26 : IVec S8192x8192 32 := (extui 32 · natLt_1_32) main_v25
  let main_v27 : IVec S8192x32x256 32 := shapeCast S8192x32x256 main_v26 shapeCasts_S8192x8192_S8192x32x256
  let main_c : IVec S_ 32 := constantI S_ 32 0#32
  let main_v28 : IVec S8192x256 32 := (fun x v => Host.reduce IntOp.addi x v reducesTo_S8192x32x256_S8192x256_d1 h_S_) main_v27 main_c
  let main_c_3 : IVec S_ 32 := constantI S_ 32 2147483648#32
  let main_v29 : IVec S8192 32 := (fun x v => Host.reduce IntOp.maxsi x v reducesTo_S8192x256_S8192_d1 h_S_) main_v28 main_c_3
  let main_c_4 : IVec S_ 32 := constantI S_ 32 4#32
  let main_v30 : IVec S8192 32 := broadcastInDim S8192 ![] bcast_S_S8192 main_c_4
  let main_v31 : IVec S8192 1 := cmpi .sle main_v29 main_v30
  let main_cst_5 : FVec F S_ .f32 := constant S_ .f32 0x7F800000#32
  let main_v32 : FVec F S_ .f32 := (fun x v => Host.reduce FloatOps.minimumf x v reducesTo_S8192_S_d0 h_S_) main_v3 main_cst_5
  let main_cst_6 : FVec F S_ .f32 := constant S_ .f32 0x00000000#32
  let main_v33 : IVec S_ 1 := cmpf .ogt main_v32 main_cst_6
  let main_v34 : IVec S8192 1 := andi main_v22 main_v31
  let main_v35 : IVec S8192 1 := broadcastInDim S8192 ![] bcast_S_S8192 main_v33
  let main_v36 : IVec S8192 1 := andi main_v34 main_v35
  fn_part2 (F := F) main_v36

def fn {F : FTy → Type} [FloatOps F] (main_arg0 : FVec F S8192x8 .f32) (main_arg1 : FVec F S7x7 .f32) (main_arg2 : FVec F S7 .f32) : IVec S8192x7 1 :=
  let main_v0 : FVec F S8192x7 .f32 := (extractStridedSlice S8192x7 ![0, 0] · slices_S8192x8_S8192x7_0_0) main_arg0
  let main_v1 : FVec F S8192x7 .f32 := mulf main_v0 main_v0
  let main_cst : FVec F S_ .f32 := constant S_ .f32 0x00000000#32
  let main_v2 : FVec F S8192 .f32 := (fun x v => Host.reduceAdd x v reducesTo_S8192x7_S8192_d1 h_S_) main_v1 main_cst
  let main_v3 : FVec F S8192 .f32 := Host.sqrt main_v2
  let main_v4 : FVec F S7x8192 .f32 := (transpose S7x8192 [1, 0] · transposes_S8192x7_S7x8192_1_0) main_v0
  let main_v5 : FVec F S8192x8192 .f32 := (fun l r => Host.dotGeneral dot_S8192x7_S7x8192_S8192x8192_1_0_0_1_n_n none l r) main_v0 main_v4
  let main_v6 : FVec F S8192x1 .f32 := broadcastInDim S8192x1 ![0] bcast_S8192_S8192x1_0 main_v3
  let main_v7 : FVec F S1x8192 .f32 := broadcastInDim S1x8192 ![1] bcast_S8192_S1x8192_1 main_v3
  let main_v8 : FVec F S8192x8192 .f32 := broadcastInDim S8192x8192 ![0, 1] bcast_S8192x1_S8192x8192_0_1 main_v6
  let main_v9 : FVec F S8192x8192 .f32 := broadcastInDim S8192x8192 ![0, 1] bcast_S1x8192_S8192x8192_0_1 main_v7
  let main_v10 : FVec F S8192x8192 .f32 := mulf main_v8 main_v9
  let main_v11 : FVec F S8192x8192 .f32 := Host.divf main_v5 main_v10
  let main_values : FVec F S8192x33 .f32 := (fun x => (Host.topK S8192x33 1 (FloatOps.cmpfTotal .gt) x sliceFits_S8192x8192_S8192x33).1) main_v11
  let main_indices : IVec S8192x33 32 := (fun x => (Host.topK S8192x33 1 (FloatOps.cmpfTotal .gt) x sliceFits_S8192x8192_S8192x33).2) main_v11
  let main_cst_0 : FVec F S_ .f32 := constant S_ .f32 0x3F828F5C#32
  let main_cst_1 : FVec F S_ .f32 := constant S_ .f32 0x47800000#32
  let main_v12 : FVec F S_ .f32 := Host.divf main_cst_0 main_cst_1
  let main_cst_2 : FVec F S_ .f32 := constant S_ .f32 0x3F828F5C#32
  let main_v13 : FVec F S8192x33 .f32 := broadcastInDim S8192x33 ![] bcast_S_S8192x33 main_cst_2
  let main_v14 : FVec F S8192x33 .f32 := addf main_values main_v13
  let main_v15 : FVec F S8192x33 .f32 := broadcastInDim S8192x33 ![] bcast_S_S8192x33 main_v12
  let main_v16 : FVec F S8192x33 .f32 := Host.divf main_v14 main_v15
  let main_v17 : FVec F S8192x33 .f32 := Host.floor main_v16
  fn_part1 (F := F) main_v3 main_v11 main_values main_v17
-- ==== Kernel.lean ====
abbrev S8192x8 : Shape := ⟨2, ![8192, 8]⟩
abbrev S7x7 : Shape := ⟨2, ![7, 7]⟩
abbrev S7 : Shape := ⟨1, ![7]⟩
abbrev S8192x7 : Shape := ⟨2, ![8192, 7]⟩
abbrev S7x8192 : Shape := ⟨2, ![7, 8192]⟩
abbrev S1x7 : Shape := ⟨2, ![1, 7]⟩
abbrev S512x7 : Shape := ⟨2, ![512, 7]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S8192x1 : Shape := ⟨2, ![8192, 1]⟩
abbrev S512 : Shape := ⟨1, ![512]⟩
abbrev S512x1 : Shape := ⟨2, ![512, 1]⟩
abbrev S512x8192 : Shape := ⟨2, ![512, 8192]⟩
abbrev S512x256 : Shape := ⟨2, ![512, 256]⟩
abbrev S512x1024 : Shape := ⟨2, ![512, 1024]⟩
abbrev S512x8 : Shape := ⟨2, ![512, 8]⟩

abbrev nBuf : Space → Nat
  | .hbm => 7
  | .vmem => 9
  | .smem => 0
  | _ => 0

abbrev bufTy : (tb : Table) → Fin (tcTables nBuf tb) → BufTy
  | .hbm, ⟨0, _⟩ => ⟨S8192x8, .f32⟩
  | .hbm, ⟨1, _⟩ => ⟨S7x7, .f32⟩
  | .hbm, ⟨2, _⟩ => ⟨S7, .f32⟩
  | .hbm, ⟨3, _⟩ => ⟨S8192x7, .f32⟩
  | .hbm, ⟨4, _⟩ => ⟨S7x8192, .f32⟩
  | .hbm, ⟨5, _⟩ => ⟨S1x7, .f32⟩
  | .hbm, ⟨6, _⟩ => ⟨S8192x7, .f32⟩
  | .local _ .vmem, ⟨0, _⟩ => ⟨S7x8192, .f32⟩
  | .local _ .vmem, ⟨1, _⟩ => ⟨S7x7, .f32⟩
  | .local _ .vmem, ⟨2, _⟩ => ⟨S1x7, .f32⟩
  | .local _ .vmem, ⟨3, _⟩ => ⟨S512x7, .f32⟩
  | .local _ .vmem, ⟨4, _⟩ => ⟨S512x7, .f32⟩
  | .local _ .vmem, ⟨5, _⟩ => ⟨S512x7, .f32⟩
  | .local _ .vmem, ⟨6, _⟩ => ⟨S512x7, .f32⟩
  | .local _ .vmem, ⟨7, _⟩ => ⟨S8192x8, .f32⟩
  | .local _ .vmem, ⟨8, _⟩ => ⟨S7x8192, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_8 : BitVec 32 := 0#32
  let c17_i32 : BitVec 32 := 17#32
  let v257 : BitVec 32 := Scalar.addi c0_i32_8 c17_i32
  let c1_i32 : BitVec 32 := 1#32
  ⟨c0_i32_8, v257, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S7x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x7 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x8 : Shape := ⟨2, ![8192, 8]⟩
abbrev S7x7 : Shape := ⟨2, ![7, 7]⟩
abbrev S7 : Shape := ⟨1, ![7]⟩
abbrev S8192x7 : Shape := ⟨2, ![8192, 7]⟩
abbrev S_ : Shape := ⟨0, ![]⟩
abbrev S1 : Shape := ⟨1, ![1]⟩
abbrev S1x7 : Shape := ⟨2, ![1, 7]⟩
abbrev S8192 : Shape := ⟨1, ![8192]⟩
abbrev S7x8192 : Shape := ⟨2, ![7, 8192]⟩
abbrev S8192x8192 : Shape := ⟨2, ![8192, 8192]⟩
abbrev S8192x1 : Shape := ⟨2, ![8192, 1]⟩
abbrev S1x8192 : Shape := ⟨2, ![1, 8192]⟩
abbrev S8192x32 : Shape := ⟨2, ![8192, 32]⟩
abbrev S8192x32x1 : Shape := ⟨3, ![8192, 32, 1]⟩
abbrev S8192x32x2 : Shape := ⟨3, ![8192, 32, 2]⟩

abbrev nBuf : Space → Nat
  | .hbm => 82
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S7x7, .f32⟩
  | .hbm, ⟨2, _⟩ => ⟨S7, .f32⟩
  | .hbm, ⟨3, _⟩ => ⟨S8192x7, .f32⟩
  | .hbm, ⟨4, _⟩ => ⟨S7x7, .f32⟩
  | .hbm, ⟨5, _⟩ => ⟨S8192x7, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S7, .f32⟩
  | .hbm, ⟨12, _⟩ => ⟨S7, .f32⟩
  | .hbm, ⟨13, _⟩ => ⟨S7, .f32⟩
  | .hbm, ⟨14, _⟩ => ⟨S_, .f32⟩
  | .hbm, ⟨15, _⟩ => ⟨S_, .f32⟩
  | .hbm, ⟨16, _⟩ => ⟨S1, .f32⟩
  | .hbm, ⟨17, _⟩ => ⟨S7, .f32⟩
  | .hbm, ⟨18, _⟩ => ⟨S7, .f32⟩
  | .hbm, ⟨19, _⟩ => ⟨S1x7, .f32⟩
  | .hbm, ⟨20, _⟩ => ⟨S8192x7, .f32⟩
  | .hbm, ⟨21, _⟩ => ⟨S8192x7, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x7, .f32⟩
  | .hbm, ⟨26, _⟩ => ⟨S8192x7, .f32⟩
  | .hbm, ⟨27, _⟩ => ⟨S_, .f32⟩
  | .hbm, ⟨28, _⟩ => ⟨S8192x7, .f32⟩
  | .hbm, ⟨29, _⟩ => ⟨S8192x7, .f32⟩
  | .hbm, ⟨30, _⟩ => ⟨S8192x7, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S7x8192, .f32⟩
  | .hbm, ⟨35, _⟩ => ⟨S8192x8192, .f32⟩
  | .hbm, ⟨36, _⟩ => ⟨S8192x1, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x32, .f32⟩
  | .hbm, ⟨43, _⟩ => ⟨S8192x32, .i32⟩
  | .hbm, ⟨44, _⟩ => ⟨S_, .f32⟩
  | .hbm, ⟨45, _⟩ => ⟨S8192x8192, .f32⟩
  | .hbm, ⟨46, _⟩ => ⟨S8192, .i32⟩
  | .hbm, ⟨47, _⟩ => ⟨S8192x1, .i32⟩
  | .hbm, ⟨48, _⟩ => ⟨S_, .i32⟩
  | .hbm, ⟨49, _⟩ => ⟨S8192x1, .i32⟩
  | .hbm, ⟨50, _⟩ => ⟨S8192x1, .i1⟩
  | .hbm, ⟨51, _⟩ => ⟨S_, .i32⟩
  | .hbm, ⟨52, _⟩ => ⟨S8192x1, .i32⟩
  | .hbm, ⟨53, _⟩ => ⟨S8192x1, .i32⟩
  | .hbm, ⟨54, _⟩ => ⟨S8192x1, .i32⟩
  | .hbm, ⟨55, _⟩ => ⟨S_, .i32⟩
  | .hbm, ⟨56, _⟩ => ⟨S8192x32, .i32⟩
  | .hbm, ⟨57, _⟩ => ⟨S8192x32, .i1⟩
  | .hbm, ⟨58, _⟩ => ⟨S_, .i32⟩
  | .hbm, ⟨59, _⟩ => ⟨S8192x32, .i32⟩
  | .hbm, ⟨60, _⟩ => ⟨S8192x32, .i32⟩
  | .hbm, ⟨61, _⟩ => ⟨S8192x32, .i32⟩
  | .hbm, ⟨62, _⟩ => ⟨S8192x32, .i32⟩
  | .hbm, ⟨63, _⟩ => ⟨S8192x32x1, .i32⟩
  | .hbm, ⟨64, _⟩ => ⟨S8192x32x1, .i32⟩
  | .hbm, ⟨65, _⟩ => ⟨S8192x32x2, .i32⟩
  | .hbm, ⟨66, _⟩ => ⟨S8192x8192, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192x1, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x8192, .f32⟩
  | .hbm, ⟨80, _⟩ => ⟨S8192x8192, .f32⟩
  | .hbm, ⟨81, _⟩ => ⟨S8192x7, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_values : Ref sig .tc := ⟨.hbm, 42, rfl⟩
abbrev main_indices : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== Proof.Merge.lean ====
module

public import Idealize.ShloMosaic.PureOps.Ideal

/-!
# The four largest of a group, kept by comparators

The kernel folds 32 numbers of one lane to four by pairs of maxima and minima. What the four that stay are is said by
COUNTING: for every threshold `t`, how many of the four reach `t` is how many of the 32 do, capped at four. Each merge
is a statement about truth values, checked by evaluation.
-/

@[expose] public section

noncomputable section

namespace Cert.Merge

/-- Whether `x` reaches the threshold `t`, as a number 0 or 1. -/
def ge (t x : EReal) : Bool := decide (t ≤ x)

/-- A maximum reaches `t` when one of the two does. -/
theorem ge_max (t x y : EReal) : ge t (max x y) = (ge t x || ge t y) := by
  simp [ge, le_max_iff]

/-- A minimum reaches `t` when both do. -/
theorem ge_min (t x y : EReal) : ge t (min x y) = (ge t x && ge t y) := by
  simp [ge, le_min_iff]

/-- `a` and `b` are a pair in descending order, of which `n t` reach `t`. -/
def Top2 (a b : EReal) (n : EReal → ℕ) : Prop :=
  ∀ t, (ge t b → ge t a) ∧ (ge t a).toNat + (ge t b).toNat = n t

/-- `a`, `b`, `c`, `d` are in descending order and are the four largest of a group of which `n t` reach `t`. -/
def Top4 (a b c d : EReal) (n : EReal → ℕ) : Prop :=
  ∀ t, (ge t b → ge t a) ∧ (ge t c → ge t b) ∧ (ge t d → ge t c)
    ∧ (ge t a).toNat + (ge t b).toNat + (ge t c).toNat + (ge t d).toNat = min 4 (n t)

/-- Two numbers in order. -/
theorem pair (x y : EReal) : Top2 (max x y) (min x y) fun t => (ge t x).toNat + (ge t y).toNat := by
  intro t
  show _ ∧ _ = (ge t x).toNat + (ge t y).toNat
  rw [ge_max, ge_min]
  generalize ge t x = a, ge t y = b
  revert a b
  decide

/-- Two ordered pairs merged to four. -/
theorem merge22 {a1 a2 b1 b2 : EReal} {n k : EReal → ℕ} (ha : Top2 a1 a2 n) (hb : Top2 b1 b2 k) :
    Top4 (max a1 b1) (max (min a1 b1) (max a2 b2)) (max (min a2 b1) (min a1 b2)) (min a2 b2) fun t => n t + k t := by
  intro t
  obtain ⟨ha, hn⟩ := ha t
  obtain ⟨hb, hk⟩ := hb t
  show _ ∧ _ ∧ _ ∧ _ = min 4 (n t + k t)
  rw [← hn, ← hk]
  simp only [ge_max, ge_min]
  revert ha hb
  clear hn hk
  generalize ge t a1 = a1, ge t a2 = a2, ge t b1 = b1, ge t b2 = b2
  revert a1 a2 b1 b2
  decide

/-- The merge of two ordered fours, on truth values. -/
theorem merge44_bool : ∀ a1 a2 a3 a4 b1 b2 b3 b4 : Bool, (a2 → a1) → (a3 → a2) → (a4 → a3) → (b2 → b1) → (b3 → b2) →
    (b4 → b3) →
    (((a1 && b1) || (a2 || b2)) → (a1 || b1))
    ∧ (((a3 || b3) || ((a2 && b1) || (a1 && b2))) → ((a1 && b1) || (a2 || b2)))
    ∧ ((((a4 || b4) || (a3 && b1)) || ((a2 && b2) || (a1 && b3))) → ((a3 || b3) || ((a2 && b1) || (a1 && b2))))
    ∧ (a1 || b1).toNat + ((a1 && b1) || (a2 || b2)).toNat + ((a3 || b3) || ((a2 && b1) || (a1 && b2))).toNat
      + (((a4 || b4) || (a3 && b1)) || ((a2 && b2) || (a1 && b3))).toNat
      = min 4 ((a1.toNat + a2.toNat + a3.toNat + a4.toNat) + (b1.toNat + b2.toNat + b3.toNat + b4.toNat)) := by
  decide +kernel

/-- Two ordered fours merged to four. -/
theorem merge44 {a1 a2 a3 a4 b1 b2 b3 b4 : EReal} {n k : EReal → ℕ} (ha : Top4 a1 a2 a3 a4 n) (hb : Top4 b1 b2 b3 b4 k) :
    Top4 (max a1 b1) (max (min a1 b1) (max a2 b2)) (max (max a3 b3) (max (min a2 b1) (min a1 b2)))
      (max (max (max a4 b4) (min a3 b1)) (max (min a2 b2) (min a1 b3))) fun t => n t + k t := by
  intro t
  obtain ⟨h21, h32, h43, hn⟩ := ha t
  obtain ⟨g21, g32, g43, hk⟩ := hb t
  obtain ⟨p, q, r, s⟩ := merge44_bool _ _ _ _ _ _ _ _ h21 h32 h43 g21 g32 g43
  simp only [ge_max, ge_min]
  refine ⟨p, q, r, s.trans ?_⟩
  rw [hn, hk]
  omega

/-- How many of the four reach `t`. -/
theorem Top4.count {a b c d : EReal} {n : EReal → ℕ} (h : Top4 a b c d n) (t : EReal) :
    (ge t a).toNat + (ge t b).toNat + (ge t c).toNat + (ge t d).toNat = min 4 (n t) := (h t).2.2.2

end Cert.Merge
-- ==== Proof.Count.lean ====
module

public import proofs.«01_k».proof.Proof.Merge
public import proofs.«01_k».proof.Proof.Gen.KernelIdeal.Value
public import Idealize.ShloMosaic.Lib.Pointwise

/-!
# The count one bisection step takes

A block's row of 8192 attention values is looked at as 256 lanes of 32 values (value `256 g + l` is number `g` of lane
`l`). The kernel keeps of every lane four values and counts how many of the 1024 kept ones reach the middle of the
bisection interval. Here that count is said of the 8192 values themselves: every lane adds how many of ITS values reach
the middle, capped at four.
-/

@[expose] public section

set_option maxRecDepth 16384

noncomputable section

namespace Cert.KernelIdeal.Block

open Idealize.ShloMosaic Idealize.ShloMosaic.TcCoe Idealize.ShloMosaic.Tactic
open Cert.KernelIdeal.Gen Cert.Merge

/-- The bisection's test at the middle `mid`, row by row, from the block's rows `v3` and the normalised keys `v11`: the
    body's lines from the attention values to the comparison with 32, in the body's order. -/
def reached (v3 : Vec Ideal S512x7 .f32) (v11 : Vec Ideal S7x8192 .f32) (mid : FVec Ideal S512x1 .f32) : IVec S512x1 1 :=
  let v17 := k0_pay9 v3 v11
  let v18 := k0_pay10 v3 v11
  let v19 := k0_pay11 v3 v11
  let v20 := k0_pay12 v3 v11
  let v21 := k0_pay13 v3 v11
  let v22 := k0_pay14 v3 v11
  let v23 := k0_pay15 v3 v11
  let v24 := k0_pay16 v3 v11
  let v25 := k0_pay17 v3 v11
  let v26 := k0_pay18 v3 v11
  let v27 := k0_pay19 v3 v11
  let v28 := k0_pay20 v3 v11
  let v29 := k0_pay21 v3 v11
  let v30 := k0_pay22 v3 v11
  let v31 := k0_pay23 v3 v11
  let v32 := k0_pay24 v3 v11
  let v33 := k0_pay25 v3 v11
  let v34 := k0_pay26 v3 v11
  let v35 := k0_pay27 v3 v11
  let v36 := k0_pay28 v3 v11
  let v37 := k0_pay29 v3 v11
  let v38 := k0_pay30 v3 v11
  let v39 := k0_pay31 v3 v11
  let v40 := k0_pay32 v3 v11
  let v41 := k0_pay33 v3 v11
  let v42 := k0_pay34 v3 v11
  let v43 := k0_pay35 v3 v11
  let v44 := k0_pay36 v3 v11
  let v45 := k0_pay37 v3 v11
  let v46 := k0_pay38 v3 v11
  let v47 := k0_pay39 v3 v11
  let v48 := k0_pay40 v3 v11
  let v49 := k0_pay41 v3 v11
  let v61 := k0_pay53 v29 v30
  let v62 := k0_pay54 v29 v30
  let v63 := k0_pay55 v31 v32
  let v64 := k0_pay56 v31 v32
  let v65 := k0_pay57 v33 v34
  let v66 := k0_pay58 v33 v34
  let v67 := k0_pay59 v35 v36
  let v68 := k0_pay60 v35 v36
  let v69 := k0_pay61 v37 v38
  let v70 := k0_pay62 v37 v38
  let v71 := k0_pay63 v39 v40
  let v72 := k0_pay64 v39 v40
  let v73 := k0_pay65 v41 v42
  let v74 := k0_pay66 v41 v42
  let v75 := k0_pay67 v43 v44
  let v76 := k0_pay68 v43 v44
  let v78 := k0_pay69 v45 v47
  let v80 := k0_pay70 v45 v46 v47 v48
  let v83 := k0_pay71 v45 v46 v47 v48
  let v84 := k0_pay72 v46 v48
  let v86 := k0_pay73 v19 v20 v49
  let v88 := k0_pay74 v17 v18 v19 v20 v49
  let v91 := k0_pay75 v17 v18 v19 v20 v49
  let v92 := k0_pay76 v17 v18 v19 v20
  let v94 := k0_pay77 v21 v22 v23 v24
  let v96 := k0_pay78 v21 v22 v23 v24
  let v99 := k0_pay79 v21 v22 v23 v24
  let v100 := k0_pay80 v21 v22 v23 v24
  let v102 := k0_pay81 v25 v26 v27 v28
  let v104 := k0_pay82 v25 v26 v27 v28
  let v107 := k0_pay83 v25 v26 v27 v28
  let v108 := k0_pay84 v25 v26 v27 v28
  let v109 := k0_pay85 v29 v30 v31 v32
  let v110 := k0_pay86 v61 v63
  let v112 := k0_pay87 v62 v64 v109
  let v115 := k0_pay88 v61 v62 v63 v64
  let v116 := k0_pay89 v62 v64
  let v118 := k0_pay90 v65 v67
  let v120 := k0_pay91 v65 v66 v67 v68
  let v123 := k0_pay92 v65 v66 v67 v68
  let v124 := k0_pay93 v66 v68
  let v126 := k0_pay94 v69 v71
  let v128 := k0_pay95 v69 v70 v71 v72
  let v131 := k0_pay96 v69 v70 v71 v72
  let v132 := k0_pay97 v70 v72
  let v134 := k0_pay98 v73 v75
  let v136 := k0_pay99 v73 v74 v75 v76
  let v139 := k0_pay100 v73 v74 v75 v76
  let v140 := k0_pay101 v74 v76
  let v142 := k0_pay102 v78 v86
  let v144 := k0_pay103 v78 v80 v86 v88
  let v149 := k0_pay104 v78 v80 v83 v86 v88 v91
  let v156 := k0_pay105 v78 v80 v83 v84 v86 v88 v91 v92
  let v158 := k0_pay106 v94 v102
  let v160 := k0_pay107 v94 v96 v102 v104
  let v165 := k0_pay108 v94 v96 v99 v102 v104 v107
  let v168 := k0_pay109 v99 v100 v102 v108
  let v169 := k0_pay110 v96 v104
  let v174 := k0_pay111 v110 v118
  let v176 := k0_pay112 v110 v112 v118 v120
  let v181 := k0_pay113 v110 v112 v115 v118 v120 v123
  let v188 := k0_pay114 v110 v112 v115 v116 v118 v120 v123 v124
  let v190 := k0_pay115 v126 v134
  let v192 := k0_pay116 v126 v128 v134 v136
  let v197 := k0_pay117 v126 v128 v131 v134 v136 v139
  let v204 := k0_pay118 v126 v128 v131 v132 v134 v136 v139 v140
  let v206 := k0_pay119 v142 v158
  let v208 := k0_pay120 v142 v144 v158 v160
  let v213 := k0_pay121 v142 v144 v149 v158 v160 v165
  let v220 := k0_pay122 v94 v107 v142 v144 v149 v156 v158 v160 v165 v168 v169
  let v222 := k0_pay123 v110 v118 v126 v134
  let v224 := k0_pay124 v110 v112 v118 v120 v126 v128 v134 v136
  let v229 := k0_pay125 v110 v112 v115 v118 v120 v123 v126 v128 v131 v134 v136 v139
  k0_pay129 v174 v176 v181 v188 v190 v192 v197 v204 v206 v208 v213 v220 v222 v224 v229 mid

/-- Value number `g` of lane `l` in row `p`. -/
def lane (v3 : Vec Ideal S512x7 .f32) (v11 : Vec Ideal S7x8192 .f32) (p : Fin 512) (l : Fin 256) (g : Fin 32) : EReal :=
  k0_pay4 v3 v11 (ix2 p ⟨256 * g.val + l.val, by omega⟩)

/-- How many values of lane `l` in row `p` reach `t`. -/
def laneCount (v3 : Vec Ideal S512x7 .f32) (v11 : Vec Ideal S7x8192 .f32) (p : Fin 512) (l : Fin 256) (t : EReal) : ℕ :=
  ∑ g : Fin 32, (ge t (lane v3 v11 p l g)).toNat

/-- A sum over four stretches of 256, by stretches. -/
theorem sum_stretches {M : Type} [AddCommMonoid M] (F : Fin 1024 → M) :
    ∑ x, F x = ∑ l : Fin 256, (F ⟨l.val, by omega⟩ + F ⟨256 + l.val, by omega⟩ + F ⟨512 + l.val, by omega⟩ + F ⟨768 + l.val, by omega⟩) := by
  have h1 : ∑ x, F x = (∑ x : Fin 768, F ⟨x.val, by omega⟩) + ∑ l : Fin 256, F ⟨768 + l.val, by omega⟩ :=
    Fin.sum_univ_add (a := 768) (b := 256) F
  have h2 : (∑ x : Fin 768, F ⟨x.val, by omega⟩)
      = (∑ x : Fin 512, F ⟨x.val, by omega⟩) + ∑ l : Fin 256, F ⟨512 + l.val, by omega⟩ :=
    Fin.sum_univ_add (a := 512) (b := 256) fun x => F ⟨x.val, by omega⟩
  have h3 : (∑ x : Fin 512, F ⟨x.val, by omega⟩)
      = (∑ x : Fin 256, F ⟨x.val, by omega⟩) + ∑ l : Fin 256, F ⟨256 + l.val, by omega⟩ :=
    Fin.sum_univ_add (a := 256) (b := 256) fun x => F ⟨x.val, by omega⟩
  rw [h1, h2, h3, Finset.sum_add_distrib, Finset.sum_add_distrib, Finset.sum_add_distrib]

/-- The four stretches' entries counted where the row is four rows of 256 side by side. -/
theorem sum_four {M : Type} [AddCommMonoid M] (f : EReal → M) (A B C D : Fin 256 → EReal) :
    (∑ x : Fin 1024, f (if h : x.val < 256 then A ⟨x.val, h⟩ else
      if h : x.val - 256 < 256 then B ⟨x.val - 256, h⟩ else
      if h : x.val - 256 - 256 < 256 then C ⟨x.val - 256 - 256, h⟩ else D ⟨x.val - 256 - 256 - 256, by omega⟩))
      = ∑ l : Fin 256, (f (A l) + f (B l) + f (C l) + f (D l)) := by
  rw [sum_stretches]
  refine Finset.sum_congr rfl fun l _ => ?_
  have hB : 256 + l.val - 256 = l.val := by omega
  have hC : 512 + l.val - 256 - 256 = l.val := by omega
  have hD : 768 + l.val - 256 - 256 - 256 = l.val := by omega
  have b1 : ¬ 256 + l.val < 256 := by omega
  have c1 : ¬ 512 + l.val < 256 := by omega
  have c2 : ¬ 512 + l.val - 256 < 256 := by omega
  have d1 : ¬ 768 + l.val < 256 := by omega
  have d2 : ¬ 768 + l.val - 256 < 256 := by omega
  have d3 : ¬ 768 + l.val - 256 - 256 < 256 := by omega
  simp only [b1, c1, c2, d1, d2, d3, hB, hC, hD, l.isLt, dif_pos, dif_neg, not_false_eq_true, Fin.eta]

/-- A truth value as the number the kernel counts by. -/
theorem indicator (b : Bool) : FloatOps.sitofp (F := Ideal) FTy.f32 (BitVec.setWidth 32 (BitVec.ofBool b)) = ((b.toNat : ℕ) : EReal) := by
  cases b <;> simp [FloatOps.sitofp]

/-- The 32 threshold of the count. -/
theorem thirty_two : Ideal.ofBits FTy.f32 1107296256#32 = ((32 : ℕ) : EReal) := by
  simp [Ideal.ofBits, Ideal.ieee, -EReal.coe_mul]
  norm_num
  norm_cast

/-- The body's last lines: the two groups of four of every lane merged to four, and the 1024 kept values counted. -/
theorem last (v174 v176 v181 v188 v190 v192 v197 v204 v206 v208 v213 v220 v222 v224 v229 : FVec Ideal S512x256 .f32)
    (mid : FVec Ideal S512x1 .f32) (p : Fin 512) (n k : Fin 256 → EReal → ℕ)
    (h : ∀ l, Top4 (v206 (ix2 p l)) (v208 (ix2 p l)) (v213 (ix2 p l)) (v220 (ix2 p l)) (n l))
    (h' : ∀ l, Top4 (v222 (ix2 p l)) (v224 (ix2 p l)) (v229 (ix2 p l))
      (max (max (max (v188 (ix2 p l)) (v204 (ix2 p l))) (min (v181 (ix2 p l)) (v190 (ix2 p l))))
        (max (min (v176 (ix2 p l)) (v192 (ix2 p l))) (min (v174 (ix2 p l)) (v197 (ix2 p l))))) (k l)) :
    k0_pay129 v174 v176 v181 v188 v190 v192 v197 v204 v206 v208 v213 v220 v222 v224 v229 mid (ix2 p 0)
      = BitVec.ofBool (decide (32 ≤ ∑ l : Fin 256, min 4 (n l (mid (ix2 p 0)) + k l (mid (ix2 p 0))))) := by
  pointwise [k0_pay129]
  refine congrArg BitVec.ofBool (decide_eq_decide.mpr ?_)
  rw [thirty_two]
  have e := sum_four (fun x => FloatOps.sitofp (F := Ideal) FTy.f32 (BitVec.setWidth 32 (BitVec.ofBool (decide (mid (ix2 p 0) ≤ x)))))
    (fun l => max (v206 (ix2 p l)) (v222 (ix2 p l)))
    (fun l => max (min (v206 (ix2 p l)) (v222 (ix2 p l))) (max (v208 (ix2 p l)) (v224 (ix2 p l))))
    (fun l => max (max (v213 (ix2 p l)) (v229 (ix2 p l)))
      (max (min (v208 (ix2 p l)) (v222 (ix2 p l))) (min (v206 (ix2 p l)) (v224 (ix2 p l)))))
    (fun l => max (max (max (v220 (ix2 p l)) (max (max (max (v188 (ix2 p l)) (v204 (ix2 p l))) (min (v181 (ix2 p l)) (v190 (ix2 p l))))
        (max (min (v176 (ix2 p l)) (v192 (ix2 p l))) (min (v174 (ix2 p l)) (v197 (ix2 p l))))))
        (min (v213 (ix2 p l)) (v222 (ix2 p l))))
      (max (min (v208 (ix2 p l)) (v224 (ix2 p l))) (min (v206 (ix2 p l)) (v229 (ix2 p l)))))
  refine (iff_of_eq (congrArg (fun z : EReal => ((32 : ℕ) : EReal) ≤ z) (e.trans ?_))).trans Nat.cast_le
  rw [Nat.cast_sum]
  refine Finset.sum_congr rfl fun l _ => ?_
  simp only [indicator]
  rw [← Nat.cast_add, ← Nat.cast_add, ← Nat.cast_add]
  exact congrArg _ ((merge44 (h l) (h' l)).count (mid (ix2 p 0)))

section Slices

variable (v3 : Vec Ideal S512x7 .f32) (v11 : Vec Ideal S7x8192 .f32) (p : Fin 512) (l : Fin 256)

/-- Slice 0 of a row at lane `l`. -/
theorem lane_0 : k0_pay5 v3 v11 (ix2 p l) = lane v3 v11 p l 0 := by pointwise [k0_pay5, lane]
/-- Slice 1 of a row at lane `l`. -/
theorem lane_1 : k0_pay6 v3 v11 (ix2 p l) = lane v3 v11 p l 1 := by pointwise [k0_pay6, lane]
/-- Slice 2 of a row at lane `l`. -/
theorem lane_2 : k0_pay7 v3 v11 (ix2 p l) = lane v3 v11 p l 2 := by pointwise [k0_pay7, lane]
/-- Slice 3 of a row at lane `l`. -/
theorem lane_3 : k0_pay8 v3 v11 (ix2 p l) = lane v3 v11 p l 3 := by pointwise [k0_pay8, lane]
/-- Slice 4 of a row at lane `l`. -/
theorem lane_4 : k0_pay9 v3 v11 (ix2 p l) = lane v3 v11 p l 4 := by pointwise [k0_pay9, lane]
/-- Slice 5 of a row at lane `l`. -/
theorem lane_5 : k0_pay10 v3 v11 (ix2 p l) = lane v3 v11 p l 5 := by pointwise [k0_pay10, lane]
/-- Slice 6 of a row at lane `l`. -/
theorem lane_6 : k0_pay11 v3 v11 (ix2 p l) = lane v3 v11 p l 6 := by pointwise [k0_pay11, lane]
/-- Slice 7 of a row at lane `l`. -/
theorem lane_7 : k0_pay12 v3 v11 (ix2 p l) = lane v3 v11 p l 7 := by pointwise [k0_pay12, lane]
/-- Slice 8 of a row at lane `l`. -/
theorem lane_8 : k0_pay13 v3 v11 (ix2 p l) = lane v3 v11 p l 8 := by pointwise [k0_pay13, lane]
/-- Slice 9 of a row at lane `l`. -/
theorem lane_9 : k0_pay14 v3 v11 (ix2 p l) = lane v3 v11 p l 9 := by pointwise [k0_pay14, lane]
/-- Slice 10 of a row at lane `l`. -/
theorem lane_10 : k0_pay15 v3 v11 (ix2 p l) = lane v3 v11 p l 10 := by pointwise [k0_pay15, lane]
/-- Slice 11 of a row at lane `l`. -/
theorem lane_11 : k0_pay16 v3 v11 (ix2 p l) = lane v3 v11 p l 11 := by pointwise [k0_pay16, lane]
/-- Slice 12 of a row at lane `l`. -/
theorem lane_12 : k0_pay17 v3 v11 (ix2 p l) = lane v3 v11 p l 12 := by pointwise [k0_pay17, lane]
/-- Slice 13 of a row at lane `l`. -/
theorem lane_13 : k0_pay18 v3 v11 (ix2 p l) = lane v3 v11 p l 13 := by pointwise [k0_pay18, lane]
/-- Slice 14 of a row at lane `l`. -/
theorem lane_14 : k0_pay19 v3 v11 (ix2 p l) = lane v3 v11 p l 14 := by pointwise [k0_pay19, lane]
/-- Slice 15 of a row at lane `l`. -/
theorem lane_15 : k0_pay20 v3 v11 (ix2 p l) = lane v3 v11 p l 15 := by pointwise [k0_pay20, lane]
/-- Slice 16 of a row at lane `l`. -/
theorem lane_16 : k0_pay21 v3 v11 (ix2 p l) = lane v3 v11 p l 16 := by pointwise [k0_pay21, lane]
/-- Slice 17 of a row at lane `l`. -/
theorem lane_17 : k0_pay22 v3 v11 (ix2 p l) = lane v3 v11 p l 17 := by pointwise [k0_pay22, lane]
/-- Slice 18 of a row at lane `l`. -/
theorem lane_18 : k0_pay23 v3 v11 (ix2 p l) = lane v3 v11 p l 18 := by pointwise [k0_pay23, lane]
/-- Slice 19 of a row at lane `l`. -/
theorem lane_19 : k0_pay24 v3 v11 (ix2 p l) = lane v3 v11 p l 19 := by pointwise [k0_pay24, lane]
/-- Slice 20 of a row at lane `l`. -/
theorem lane_20 : k0_pay25 v3 v11 (ix2 p l) = lane v3 v11 p l 20 := by pointwise [k0_pay25, lane]
/-- Slice 21 of a row at lane `l`. -/
theorem lane_21 : k0_pay26 v3 v11 (ix2 p l) = lane v3 v11 p l 21 := by pointwise [k0_pay26, lane]
/-- Slice 22 of a row at lane `l`. -/
theorem lane_22 : k0_pay27 v3 v11 (ix2 p l) = lane v3 v11 p l 22 := by pointwise [k0_pay27, lane]
/-- Slice 23 of a row at lane `l`. -/
theorem lane_23 : k0_pay28 v3 v11 (ix2 p l) = lane v3 v11 p l 23 := by pointwise [k0_pay28, lane]
/-- Slice 24 of a row at lane `l`. -/
theorem lane_24 : k0_pay29 v3 v11 (ix2 p l) = lane v3 v11 p l 24 := by pointwise [k0_pay29, lane]
/-- Slice 25 of a row at lane `l`. -/
theorem lane_25 : k0_pay30 v3 v11 (ix2 p l) = lane v3 v11 p l 25 := by pointwise [k0_pay30, lane]
/-- Slice 26 of a row at lane `l`. -/
theorem lane_26 : k0_pay31 v3 v11 (ix2 p l) = lane v3 v11 p l 26 := by pointwise [k0_pay31, lane]
/-- Slice 27 of a row at lane `l`. -/
theorem lane_27 : k0_pay32 v3 v11 (ix2 p l) = lane v3 v11 p l 27 := by pointwise [k0_pay32, lane]
/-- Slice 28 of a row at lane `l`. -/
theorem lane_28 : k0_pay33 v3 v11 (ix2 p l) = lane v3 v11 p l 28 := by pointwise [k0_pay33, lane]
/-- Slice 29 of a row at lane `l`. -/
theorem lane_29 : k0_pay34 v3 v11 (ix2 p l) = lane v3 v11 p l 29 := by pointwise [k0_pay34, lane]
/-- Slice 30 of a row at lane `l`. -/
theorem lane_30 : k0_pay35 v3 v11 (ix2 p l) = lane v3 v11 p l 30 := by pointwise [k0_pay35, lane]
/-- Slice 31 of a row at lane `l`. -/
theorem lane_31 : k0_pay36 v3 v11 (ix2 p l) = lane v3 v11 p l 31 := by pointwise [k0_pay36, lane]

end Slices

/-- A sum of 32 terms as the merges bracket it. -/
theorem sum_tree (f : Fin 32 → ℕ) :
    (((((f 0 + f 1) + (f 2 + f 3)) + ((f 4 + f 5) + (f 6 + f 7))) + (((f 8 + f 9) + (f 10 + f 11)) + ((f 12 + f 13) + (f 14 + f 15)))) + ((((f 16 + f 17) + (f 18 + f 19)) + ((f 20 + f 21) + (f 22 + f 23))) + (((f 24 + f 25) + (f 26 + f 27)) + ((f 28 + f 29) + (f 30 + f 31))))) = ∑ g, f g := by
  have h : ∑ g, f g = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 := by
    simp only [Fin.sum_univ_castSucc, Finset.univ_eq_empty, Finset.sum_empty, zero_add]
    rfl
  rw [h]
  omega

/-- How many of a row's 8192 values reach the middle, every lane's count capped at four, decides the step. -/
theorem reached_apply (v3 : Vec Ideal S512x7 .f32) (v11 : Vec Ideal S7x8192 .f32) (mid : FVec Ideal S512x1 .f32) (p : Fin 512) :
    reached v3 v11 mid (ix2 p 0) = BitVec.ofBool (decide (32 ≤ ∑ l : Fin 256, min 4 (laneCount v3 v11 p l (mid (ix2 p 0))))) := by
  let v17 := k0_pay9 v3 v11
  let v18 := k0_pay10 v3 v11
  let v19 := k0_pay11 v3 v11
  let v20 := k0_pay12 v3 v11
  let v21 := k0_pay13 v3 v11
  let v22 := k0_pay14 v3 v11
  let v23 := k0_pay15 v3 v11
  let v24 := k0_pay16 v3 v11
  let v25 := k0_pay17 v3 v11
  let v26 := k0_pay18 v3 v11
  let v27 := k0_pay19 v3 v11
  let v28 := k0_pay20 v3 v11
  let v29 := k0_pay21 v3 v11
  let v30 := k0_pay22 v3 v11
  let v31 := k0_pay23 v3 v11
  let v32 := k0_pay24 v3 v11
  let v33 := k0_pay25 v3 v11
  let v34 := k0_pay26 v3 v11
  let v35 := k0_pay27 v3 v11
  let v36 := k0_pay28 v3 v11
  let v37 := k0_pay29 v3 v11
  let v38 := k0_pay30 v3 v11
  let v39 := k0_pay31 v3 v11
  let v40 := k0_pay32 v3 v11
  let v41 := k0_pay33 v3 v11
  let v42 := k0_pay34 v3 v11
  let v43 := k0_pay35 v3 v11
  let v44 := k0_pay36 v3 v11
  let v45 := k0_pay37 v3 v11
  let v46 := k0_pay38 v3 v11
  let v47 := k0_pay39 v3 v11
  let v48 := k0_pay40 v3 v11
  let v49 := k0_pay41 v3 v11
  let v61 := k0_pay53 v29 v30
  let v62 := k0_pay54 v29 v30
  let v63 := k0_pay55 v31 v32
  let v64 := k0_pay56 v31 v32
  let v65 := k0_pay57 v33 v34
  let v66 := k0_pay58 v33 v34
  let v67 := k0_pay59 v35 v36
  let v68 := k0_pay60 v35 v36
  let v69 := k0_pay61 v37 v38
  let v70 := k0_pay62 v37 v38
  let v71 := k0_pay63 v39 v40
  let v72 := k0_pay64 v39 v40
  let v73 := k0_pay65 v41 v42
  let v74 := k0_pay66 v41 v42
  let v75 := k0_pay67 v43 v44
  let v76 := k0_pay68 v43 v44
  let v78 := k0_pay69 v45 v47
  let v80 := k0_pay70 v45 v46 v47 v48
  let v83 := k0_pay71 v45 v46 v47 v48
  let v84 := k0_pay72 v46 v48
  let v86 := k0_pay73 v19 v20 v49
  let v88 := k0_pay74 v17 v18 v19 v20 v49
  let v91 := k0_pay75 v17 v18 v19 v20 v49
  let v92 := k0_pay76 v17 v18 v19 v20
  let v94 := k0_pay77 v21 v22 v23 v24
  let v96 := k0_pay78 v21 v22 v23 v24
  let v99 := k0_pay79 v21 v22 v23 v24
  let v100 := k0_pay80 v21 v22 v23 v24
  let v102 := k0_pay81 v25 v26 v27 v28
  let v104 := k0_pay82 v25 v26 v27 v28
  let v107 := k0_pay83 v25 v26 v27 v28
  let v108 := k0_pay84 v25 v26 v27 v28
  let v109 := k0_pay85 v29 v30 v31 v32
  let v110 := k0_pay86 v61 v63
  let v112 := k0_pay87 v62 v64 v109
  let v115 := k0_pay88 v61 v62 v63 v64
  let v116 := k0_pay89 v62 v64
  let v118 := k0_pay90 v65 v67
  let v120 := k0_pay91 v65 v66 v67 v68
  let v123 := k0_pay92 v65 v66 v67 v68
  let v124 := k0_pay93 v66 v68
  let v126 := k0_pay94 v69 v71
  let v128 := k0_pay95 v69 v70 v71 v72
  let v131 := k0_pay96 v69 v70 v71 v72
  let v132 := k0_pay97 v70 v72
  let v134 := k0_pay98 v73 v75
  let v136 := k0_pay99 v73 v74 v75 v76
  let v139 := k0_pay100 v73 v74 v75 v76
  let v140 := k0_pay101 v74 v76
  let v142 := k0_pay102 v78 v86
  let v144 := k0_pay103 v78 v80 v86 v88
  let v149 := k0_pay104 v78 v80 v83 v86 v88 v91
  let v156 := k0_pay105 v78 v80 v83 v84 v86 v88 v91 v92
  let v158 := k0_pay106 v94 v102
  let v160 := k0_pay107 v94 v96 v102 v104
  let v165 := k0_pay108 v94 v96 v99 v102 v104 v107
  let v168 := k0_pay109 v99 v100 v102 v108
  let v169 := k0_pay110 v96 v104
  let v174 := k0_pay111 v110 v118
  let v176 := k0_pay112 v110 v112 v118 v120
  let v181 := k0_pay113 v110 v112 v115 v118 v120 v123
  let v188 := k0_pay114 v110 v112 v115 v116 v118 v120 v123 v124
  let v190 := k0_pay115 v126 v134
  let v192 := k0_pay116 v126 v128 v134 v136
  let v197 := k0_pay117 v126 v128 v131 v134 v136 v139
  let v204 := k0_pay118 v126 v128 v131 v132 v134 v136 v139 v140
  let v206 := k0_pay119 v142 v158
  let v208 := k0_pay120 v142 v144 v158 v160
  let v213 := k0_pay121 v142 v144 v149 v158 v160 v165
  let v220 := k0_pay122 v94 v107 v142 v144 v149 v156 v158 v160 v165 v168 v169
  let v222 := k0_pay123 v110 v118 v126 v134
  let v224 := k0_pay124 v110 v112 v118 v120 v126 v128 v134 v136
  let v229 := k0_pay125 v110 v112 v115 v118 v120 v123 v126 v128 v131 v134 v136 v139
  have H : ∀ l : Fin 256, ∃ n k : EReal → ℕ, (∀ t, n t + k t = laneCount v3 v11 p l t)
      ∧ Top4 (v206 (ix2 p l)) (v208 (ix2 p l)) (v213 (ix2 p l)) (v220 (ix2 p l)) n
      ∧ Top4 (v222 (ix2 p l)) (v224 (ix2 p l)) (v229 (ix2 p l))
        (max (max (max (v188 (ix2 p l)) (v204 (ix2 p l))) (min (v181 (ix2 p l)) (v190 (ix2 p l))))
          (max (min (v176 (ix2 p l)) (v192 (ix2 p l))) (min (v174 (ix2 p l)) (v197 (ix2 p l))))) k := by
    intro l
    have q0 : Top4 (v78 (ix2 p l)) (v80 (ix2 p l)) (v83 (ix2 p l)) (v84 (ix2 p l)) _ := merge22 (pair (k0_pay5 v3 v11 (ix2 p l)) (k0_pay6 v3 v11 (ix2 p l))) (pair (k0_pay7 v3 v11 (ix2 p l)) (k0_pay8 v3 v11 (ix2 p l)))
    have q1 : Top4 (v86 (ix2 p l)) (v88 (ix2 p l)) (v91 (ix2 p l)) (v92 (ix2 p l)) _ := merge22 (pair (k0_pay9 v3 v11 (ix2 p l)) (k0_pay10 v3 v11 (ix2 p l))) (pair (k0_pay11 v3 v11 (ix2 p l)) (k0_pay12 v3 v11 (ix2 p l)))
    have q2 : Top4 (v94 (ix2 p l)) (v96 (ix2 p l)) (v99 (ix2 p l)) (v100 (ix2 p l)) _ := merge22 (pair (k0_pay13 v3 v11 (ix2 p l)) (k0_pay14 v3 v11 (ix2 p l))) (pair (k0_pay15 v3 v11 (ix2 p l)) (k0_pay16 v3 v11 (ix2 p l)))
    have q3 : Top4 (v102 (ix2 p l)) (v104 (ix2 p l)) (v107 (ix2 p l)) (v108 (ix2 p l)) _ := merge22 (pair (k0_pay17 v3 v11 (ix2 p l)) (k0_pay18 v3 v11 (ix2 p l))) (pair (k0_pay19 v3 v11 (ix2 p l)) (k0_pay20 v3 v11 (ix2 p l)))
    have q4 : Top4 (v110 (ix2 p l)) (v112 (ix2 p l)) (v115 (ix2 p l)) (v116 (ix2 p l)) _ := merge22 (pair (k0_pay21 v3 v11 (ix2 p l)) (k0_pay22 v3 v11 (ix2 p l))) (pair (k0_pay23 v3 v11 (ix2 p l)) (k0_pay24 v3 v11 (ix2 p l)))
    have q5 : Top4 (v118 (ix2 p l)) (v120 (ix2 p l)) (v123 (ix2 p l)) (v124 (ix2 p l)) _ := merge22 (pair (k0_pay25 v3 v11 (ix2 p l)) (k0_pay26 v3 v11 (ix2 p l))) (pair (k0_pay27 v3 v11 (ix2 p l)) (k0_pay28 v3 v11 (ix2 p l)))
    have q6 : Top4 (v126 (ix2 p l)) (v128 (ix2 p l)) (v131 (ix2 p l)) (v132 (ix2 p l)) _ := merge22 (pair (k0_pay29 v3 v11 (ix2 p l)) (k0_pay30 v3 v11 (ix2 p l))) (pair (k0_pay31 v3 v11 (ix2 p l)) (k0_pay32 v3 v11 (ix2 p l)))
    have q7 : Top4 (v134 (ix2 p l)) (v136 (ix2 p l)) (v139 (ix2 p l)) (v140 (ix2 p l)) _ := merge22 (pair (k0_pay33 v3 v11 (ix2 p l)) (k0_pay34 v3 v11 (ix2 p l))) (pair (k0_pay35 v3 v11 (ix2 p l)) (k0_pay36 v3 v11 (ix2 p l)))
    have r0 : Top4 (v142 (ix2 p l)) (v144 (ix2 p l)) (v149 (ix2 p l)) (v156 (ix2 p l)) _ := merge44 q0 q1
    have r1 : Top4 (v158 (ix2 p l)) (v160 (ix2 p l)) (v165 (ix2 p l)) (max (v168 (ix2 p l)) (max (v169 (ix2 p l)) (min (v94 (ix2 p l)) (v107 (ix2 p l))))) _ := merge44 q2 q3
    have r2 : Top4 (v174 (ix2 p l)) (v176 (ix2 p l)) (v181 (ix2 p l)) (v188 (ix2 p l)) _ := merge44 q4 q5
    have r3 : Top4 (v190 (ix2 p l)) (v192 (ix2 p l)) (v197 (ix2 p l)) (v204 (ix2 p l)) _ := merge44 q6 q7
    refine ⟨_, _, fun t => ?_, merge44 r0 r1, merge44 r2 r3⟩
    simp only [lane_0, lane_1, lane_2, lane_3, lane_4, lane_5, lane_6, lane_7, lane_8, lane_9, lane_10, lane_11, lane_12, lane_13, lane_14, lane_15, lane_16, lane_17, lane_18, lane_19, lane_20, lane_21, lane_22, lane_23, lane_24, lane_25, lane_26, lane_27, lane_28, lane_29, lane_30, lane_31]
    exact sum_tree fun g => (ge t (lane v3 v11 p l g)).toNat
  choose n k hnk h h' using H
  refine (last v174 v176 v181 v188 v190 v192 v197 v204 v206 v208 v213 v220 v222 v224 v229 mid p n k h h').trans ?_
  simp only [hnk]

end Cert.KernelIdeal.Block
-- ==== Proof.Block.lean ====
module

public import proofs.«01_k».proof.Proof.Count
public import Idealize.ShloMosaic.Lib.Pipeline.ValueKit.Acc

/-!
# What one grid point leaves

A grid point handles 512 rows. The first point also fills two scratch buffers, the clipped values beside a column of
ones and the normalised keys; every later point reads them back. What a point stores is one term of the block it is
handed and of the two scratch buffers.
-/

@[expose] public section

set_option maxRecDepth 16384

noncomputable section

namespace Cert.KernelIdeal.Block

open Idealize.ShloMosaic Idealize.ShloMosaic.TcCoe Idealize.ShloMosaic.Tactic
open Cert.KernelIdeal.Gen

/-- One bisection step on the intervals of a block's rows. -/
def step (v3 : Vec Ideal S512x7 .f32) (v11 : Vec Ideal S7x8192 .f32) (b : FVec Ideal S512x1 .f32 × FVec Ideal S512x1 .f32) :
    FVec Ideal S512x1 .f32 × FVec Ideal S512x1 .f32 :=
  (k0_pay130 b.1 (k0_pay128 b.1 b.2) (reached v3 v11 (k0_pay128 b.1 b.2)),
    k0_pay131 b.2 (k0_pay128 b.1 b.2) (reached v3 v11 (k0_pay128 b.1 b.2)))

/-- The intervals after all the steps, from `[-1.02, 1.02]`. -/
def bisect (v3 : Vec Ideal S512x7 .f32) (v11 : Vec Ideal S7x8192 .f32) : FVec Ideal S512x1 .f32 × FVec Ideal S512x1 .f32 :=
  Scf.fold (fun (_ : Fin k0_t1_loop.trips) b => step v3 v11 b) (k0_pay127, k0_pay126)

/-- What a point stores, from its rows, the normalised keys and the values. -/
def stored (v3 : Vec Ideal S512x7 .f32) (v11 : Vec Ideal S7x8192 .f32) (v265 : Vec Ideal S8192x8 .f32) : Vec Ideal S512x7 .f32 :=
  k0_pay132 (k0_pay4 v3 v11) (bisect v3 v11).1 v265

section Points

variable (c : Dev nD) (i : grid0.Coords) (arg1 : Memref sig .tc .vmem S7x8192 .f32) (harg1 : arg1.IsWhole) (arg2 : Memref sig .tc .vmem S7x7 .f32) (harg2 : arg2.IsWhole) (arg3 : Memref sig .tc .vmem S1x7 .f32) (harg3 : arg3.IsWhole) (arg4 : Memref sig .tc .vmem S512x7 .f32) (harg4 : arg4.IsWhole) (arg5 : Memref sig .tc .vmem S512x7 .f32) (harg5 : arg5.IsWhole) (arg6 : Memref sig .tc .vmem S8192x8 .f32) (harg6 : arg6.IsWhole) (arg7 : Memref sig .tc .vmem S7x8192 .f32) (harg7 : arg7.IsWhole)

/-- A later point stores `stored` of its rows and the scratch it finds. -/
theorem out_later (hc0 : ¬ cond0_0 i) (x0 : Vec Ideal S7x8192 .f32) (x1 : Vec Ideal S7x7 .f32) (x2 : Vec Ideal S1x7 .f32)
    (x3 : Vec Ideal S512x7 .f32) (xs0 : Vec Ideal S8192x8 .f32) (xs1 : Vec Ideal S7x8192 .f32) :
    out0_B_4 (F := Ideal) c i arg1 harg1 arg2 harg2 arg3 harg3 arg4 harg4 arg5 harg5 arg6 harg6 arg7 harg7 hc0 x0 x1 x2 x3 xs0 xs1 = stored x3 xs1 xs0 := by
  frame_out
  rfl

/-- The first point stores `stored` of its rows and of the scratch it fills. -/
theorem out_first (hc0 : cond0_0 i) (x0 : Vec Ideal S7x8192 .f32) (x1 : Vec Ideal S7x7 .f32) (x2 : Vec Ideal S1x7 .f32)
    (x3 : Vec Ideal S512x7 .f32) :
    out0_A_4 (F := Ideal) c i arg1 harg1 arg2 harg2 arg3 harg3 arg4 harg4 arg5 harg5 arg6 harg6 arg7 harg7 hc0 x0 x1 x2 x3 = stored x3 (k0_pay2 x0) (k0_pay3 x0 x2 x1) := by
  frame_out
  rfl

/-- The values the first point leaves in scratch. -/
theorem values_first (hc0 : cond0_0 i) (x0 : Vec Ideal S7x8192 .f32) (x1 : Vec Ideal S7x7 .f32) (x2 : Vec Ideal S1x7 .f32)
    (x3 : Vec Ideal S512x7 .f32) :
    sout0_A_0 (F := Ideal) c i arg1 harg1 arg2 harg2 arg3 harg3 arg4 harg4 arg5 harg5 arg6 harg6 arg7 harg7 hc0 x0 x1 x2 x3 = k0_pay3 x0 x2 x1 := by
  frame_out

/-- The normalised keys the first point leaves in scratch. -/
theorem keys_first (hc0 : cond0_0 i) (x0 : Vec Ideal S7x8192 .f32) (x1 : Vec Ideal S7x7 .f32) (x2 : Vec Ideal S1x7 .f32)
    (x3 : Vec Ideal S512x7 .f32) :
    sout0_A_1 (F := Ideal) c i arg1 harg1 arg2 harg2 arg3 harg3 arg4 harg4 arg5 harg5 arg6 harg6 arg7 harg7 hc0 x0 x1 x2 x3 = k0_pay2 x0 := by
  frame_out

end Points

end Cert.KernelIdeal.Block
-- ==== Proof.Array.lean ====
module

public import proofs.«01_k».proof.Proof.Block
public import Idealize.ShloMosaic.Lib.Claim
public import Idealize.ShloMosaic.Lib.Pipeline.ValueKit

/-!
# What the kernel's result array holds

Every point is handed all the keys, the weights and the scale, and its own 512 rows of the keys; so row `r` of the result
is the row `r % 512` of what point `r / 512` stores.
-/

@[expose] public section

set_option maxRecDepth 16384

noncomputable section

namespace Cert.KernelIdeal.Block

open Idealize.ShloMosaic Idealize.ShloMosaic.TcCoe Idealize.ShloMosaic.Tactic
open Cert.KernelIdeal.Gen Cert.KernelIdeal.Value

variable (m : (ℓ : Loc nD τ sig) → Buf (Elt Ideal) ℓ) (c : Dev nD)

/-- The points' row blocks follow the grid coordinate; the other inputs are one block. -/
theorem index_rows : ∀ t : Fin grid0.N, win0_3.index t = ![t.val, 0] ∧ win0_0.index t = ![0, 0] ∧ win0_1.index t = ![0, 0]
    ∧ win0_2.index t = ![0, 0] := by decide +kernel

/-- The keys, transposed: entry `(d, j)` is entry `(j, d)` of the argument. -/
def keysT : Vec Ideal S7x8192 .f32 := fun y => m ((c : Thread nD τ).loc main_arg0) (ix2 (y 1) ⟨(y 0).val, by have := (y 0).isLt; simp at this; omega⟩)

/-- The scale as one row. -/
def scale : Vec Ideal S1x7 .f32 := fun y => m ((c : Thread nD τ).loc main_arg2) (ix1 (y 1))

/-- Rows `512 t + p` of the keys. -/
def rows (t : Fin 16) : Vec Ideal S512x7 .f32 := fun y => m ((c : Thread nD τ).loc main_arg0) (ix2 ⟨512 * t.val + (y 0).val, by have := (y 0).isLt; simp at this; omega⟩ ⟨(y 1).val, by have := (y 1).isLt; simp at this; omega⟩)

/-- Every point's first block is all the keys, transposed. -/
theorem block_keys (t : Fin cfg0.N) : iblk m c 0 t = keysT m c := by
  funext y
  unfold iblk keysT
  blk_simp [V, index_rows t]
  entry_read
  simp only [StableHlo.TRef.toBuf, StableHlo.TRef.ofBuf, cast_eq]
  pointwise
  blk_ext [index_rows t]

/-- Every point's second block is the weights. -/
theorem block_weight (t : Fin cfg0.N) : iblk m c 1 t = m ((c : Thread nD τ).loc main_arg1) := by
  funext y
  blk_ext [iblk, V, index_rows t]

/-- Every point's third block is the scale. -/
theorem block_scale (t : Fin cfg0.N) : iblk m c 2 t = scale m c := by
  funext y
  unfold iblk scale
  blk_simp [V, index_rows t]
  entry_read
  pointwise
  blk_ext [index_rows t]

/-- A point's fourth block is its own 512 rows. -/
theorem block_rows (t : Fin cfg0.N) : iblk m c 3 t = rows m c t := by
  funext y
  unfold iblk rows
  blk_simp [V, index_rows t]
  entry_read
  simp only [StableHlo.TRef.toBuf, StableHlo.TRef.ofBuf, cast_eq]
  pointwise
  blk_ext [index_rows t]

/-- The normalised keys the points share. -/
abbrev keysN : Vec Ideal S7x8192 .f32 := k0_pay2 (keysT m c)

/-- The clipped values beside a column of ones, which the points share. -/
abbrev values : Vec Ideal S8192x8 .f32 := k0_pay3 (keysT m c) (scale m c) (m ((c : Thread nD τ).loc main_arg1))

/-- What the output block and the two scratch buffers hold after point `n`. -/
theorem outs : ∀ (n : ℕ) (hn : n < cfg0.N), outsAt0 m c n hn
    = (stored (rows m c ⟨n, hn⟩) (keysN m c) (values m c), values m c, keysN m c)
  | 0, hn => by
    rw [outsAt0_zero, stAt0_A m c ⟨0, hn⟩ _ (Nat.zero_mod _)]
    rw [out_first, values_first, keys_first, block_keys, block_weight, block_scale, block_rows]
    rfl
  | n + 1, hn => by
    have hN : cfg0.N = 16 := N_0
    have h0 : ¬ (n + 1) % 16 = 0 := by omega
    rw [outsAt0_succ, stAt0_B m c ⟨n + 1, hn⟩ _ h0, outs n (Nat.lt_of_succ_lt hn)]
    rw [out_later, block_rows]
    rfl

/-- Row `r` of the result array. -/
theorem result_apply (r : Fin 8192) (d : Fin 7) :
    G4 m c (ix2 r d) = stored (rows m c ⟨r.val / 512, by omega⟩) (keysN m c) (values m c)
      (ix2 ⟨r.val % 512, Nat.mod_lt _ (by decide)⟩ d) := by
  have hN : cfg0.N = 16 := N_0
  have hp : pt4Of (ix2 r d) = r.val / 512 := by
    show 1 * (r.val / 512 - 0) + 1 * (d.val / 7 - 0) = _
    have := d.isLt
    omega
  have h : pt4Of (ix2 r d) < cfg0.N := by rw [hp, hN]; omega
  have e := (outsAt0_sweep m c _ h).symm.trans (outs m c _ h)
  unfold G4
  rw [dif_pos h, e]
  have hl : loc4Of (ix2 r d) = ix2 ⟨r.val % 512, Nat.mod_lt _ (by decide)⟩ d := by
    funext a
    match a with
    | ⟨0, _⟩ => rfl
    | ⟨1, _⟩ => exact Fin.ext (Nat.mod_eq_of_lt d.isLt)
  rw [hl]
  simp only [hp]

end Cert.KernelIdeal.Block
-- ==== Proof.Select.lean ====
module

public import proofs.«01_k».proof.Proof.Merge

/-!
# The 32 largest of a row

A row's 8192 values, listed in descending order by a permutation `o`. Where the 32nd is larger than the 33rd by the width
the bisection ends at, and no lane holds more than four of the values that reach the 32nd, the capped count the kernel
bisects on reaches 32 exactly at the thresholds up to the 32nd value, and the lower end of the last interval separates the
32 largest from the rest.
-/

@[expose] public section

noncomputable section

namespace Cert.Select

open Cert.Merge

/-- How many values of lane `l` reach `t`. -/
def laneCount (s : Fin 8192 → EReal) (l : Fin 256) (t : EReal) : ℕ :=
  ∑ g : Fin 32, (ge t (s ⟨256 * g.val + l.val, by omega⟩)).toNat

/-- The lanes' counts add up to the row's. -/
theorem sum_lanes (s : Fin 8192 → EReal) (t : EReal) : ∑ l, laneCount s l t = ∑ j, (ge t (s j)).toNat := by
  unfold laneCount
  rw [Finset.sum_comm, ← Fintype.sum_prod_type' (f := fun (g : Fin 32) (l : Fin 256) => (ge t (s ⟨256 * g.val + l.val, by omega⟩)).toNat)]
  refine Fintype.sum_equiv (finProdFinEquiv (m := 32) (n := 256)) _ _ fun x => ?_
  have e : (⟨256 * x.1.val + x.2.val, by omega⟩ : Fin 8192) = finProdFinEquiv (m := 32) (n := 256) x := Fin.ext (Nat.add_comm _ _)
  exact congrArg (fun j => (ge t (s j)).toNat) e

variable (s : Fin 8192 → ℝ) (o : Fin 8192 → Fin 8192)

/-- The row's count is the same in the sorted order. -/
theorem sum_sorted (ho : Function.Bijective o) (t : EReal) :
    ∑ j, (ge t (s j)).toNat = (Finset.univ.filter fun k => t ≤ (s (o k) : EReal)).card := by
  rw [← (Equiv.ofBijective o ho).sum_comp, Finset.card_filter]
  refine Finset.sum_congr rfl fun k _ => ?_
  by_cases h : t ≤ (s (o k) : EReal) <;> simp [ge, h]

/-- The capped count reaches 32 exactly at the thresholds up to the 32nd value. -/
theorem count_iff (ho : Function.Bijective o) (anti : ∀ i j : Fin 8192, i < j → s (o j) ≤ s (o i))
    (spread : ∀ l, laneCount (fun j => (s j : EReal)) l (s (o 31) : EReal) ≤ 4) (t : ℝ) :
    32 ≤ ∑ l, min 4 (laneCount (fun j => (s j : EReal)) l (t : EReal)) ↔ t ≤ s (o 31) := by
  constructor
  · intro h
    by_contra hlt
    have h1 : ∑ l, min 4 (laneCount (fun j => (s j : EReal)) l (t : EReal)) ≤ ∑ l, laneCount (fun j => (s j : EReal)) l (t : EReal) :=
      Finset.sum_le_sum fun l _ => min_le_right _ _
    rw [sum_lanes, sum_sorted s o ho] at h1
    have h2 : (Finset.univ.filter fun k => (t : EReal) ≤ (s (o k) : EReal)) ⊆ Finset.univ.filter fun k : Fin 8192 => k < 31 := by
      intro k hk
      simp only [Finset.mem_filter, Finset.mem_univ, true_and] at hk ⊢
      have hk' : t ≤ s (o k) := by exact_mod_cast hk
      by_contra hge
      have : s (o k) ≤ s (o 31) := by
        rcases (not_lt.mp hge).eq_or_lt with e | e
        · rw [e]
        · exact anti _ _ e
      exact hlt (hk'.trans this)
    have h3 := Finset.card_le_card h2
    have h4 : (Finset.univ.filter fun k : Fin 8192 => k < 31).card = 31 := by
      rw [show (Finset.univ.filter fun k : Fin 8192 => k < 31) = Finset.Iio 31 by ext; simp, Fin.card_Iio]
      rfl
    omega
  · intro h
    have mono : ∀ l, laneCount (fun j => (s j : EReal)) l (s (o 31) : EReal) ≤ min 4 (laneCount (fun j => (s j : EReal)) l (t : EReal)) := by
      intro l
      refine le_min (spread l) (Finset.sum_le_sum fun g _ => ?_)
      have ht : (t : EReal) ≤ (s (o 31) : EReal) := by exact_mod_cast h
      by_cases hg : (s (o 31) : EReal) ≤ (s ⟨256 * g.val + l.val, by omega⟩ : EReal)
      · simp [ge, hg, ht.trans hg]
      · simp [ge, hg]
    refine le_trans ?_ (Finset.sum_le_sum fun l _ => mono l)
    rw [sum_lanes, sum_sorted s o ho]
    have h2 : (Finset.univ.filter fun k : Fin 8192 => k ≤ 31) ⊆ Finset.univ.filter fun k => (s (o 31) : EReal) ≤ (s (o k) : EReal) := by
      intro k hk
      simp only [Finset.mem_filter, Finset.mem_univ, true_and] at hk ⊢
      have : s (o 31) ≤ s (o k) := by
        rcases hk.eq_or_lt with e | e
        · rw [e]
        · exact anti _ _ e
      exact_mod_cast this
    have h3 := Finset.card_le_card h2
    have h4 : (Finset.univ.filter fun k : Fin 8192 => k ≤ 31).card = 32 := by
      rw [show (Finset.univ.filter fun k : Fin 8192 => k ≤ 31) = Finset.Iic 31 by ext; simp, Fin.card_Iic]
      rfl
    omega

/-- A threshold above the 33rd value and not above the 32nd selects the 32 largest. -/
theorem selected_iff (ho : Function.Bijective o) (anti : ∀ i j : Fin 8192, i < j → s (o j) ≤ s (o i)) {l : ℝ}
    (hl : l ≤ s (o 31)) (next : s (o 32) < l) (j : Fin 8192) :
    l ≤ s j ↔ ∃ k : Fin 32, o ⟨k.val, by omega⟩ = j := by
  constructor
  · intro hj
    obtain ⟨k, rfl⟩ := ho.2 j
    by_cases hk : k.val < 32
    · exact ⟨⟨k.val, hk⟩, rfl⟩
    · exfalso
      have : s (o k) ≤ s (o 32) := by
        rcases (show (32 : Fin 8192) ≤ k from not_lt.mp hk).eq_or_lt with e | e
        · rw [e]
        · exact anti _ _ e
      linarith
  · rintro ⟨k, rfl⟩
    refine hl.trans ?_
    rcases (show (⟨k.val, by omega⟩ : Fin 8192) ≤ 31 from Nat.le_of_lt_succ k.isLt).eq_or_lt with e | e
    · rw [e]
    · exact anti _ _ e

end Cert.Select
-- ==== Proof.Cosine.lean ====
module

public import Idealize.ShloMosaic.PureOps.Ideal
public import Idealize.ShloMosaic.PureOps.Ideal.Laws

/-!
# The attention values

The reference divides an inner product of two keys by the product of their norms; the kernel scales each key by the
reciprocal of its norm first. Where no norm is zero the two agree, entries at infinity included: a key with an infinite
entry has infinite norm and gives zero both ways. The common value is a real number between -1 and 1.
-/

@[expose] public section

noncomputable section

namespace Cert.Cosine

open Idealize.ShloMosaic

/-- A sum of reals, embedded. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square root of a real that is not negative. -/
theorem sqrt_coe {q : ℝ} (h : 0 ≤ q) : Ideal.sqrt (q : EReal) = ((Real.sqrt q : ℝ) : EReal) :=
  if_neg (not_lt.mpr h)

/-- The reciprocal square root of a positive real. -/
theorem rsqrt_coe {q : ℝ} (h : 0 < q) : Ideal.rsqrt (q : EReal) = (((Real.sqrt q)⁻¹ : ℝ) : EReal) :=
  (if_neg (not_lt.mpr h.le)).trans (if_neg h.ne')

/-- The reciprocal square root at infinity. -/
theorem rsqrt_top : Ideal.rsqrt ⊤ = 0 := rfl

/-- The square of a key's norm. -/
def sq (u : Fin 7 → EReal) : EReal := ∑ d, u d * u d

/-- A square is not negative. -/
theorem mul_self_nonneg' (a : EReal) : 0 ≤ a * a := by
  induction a with
  | bot => simp
  | top => simp
  | coe r => rw [← EReal.coe_mul]; exact_mod_cast mul_self_nonneg r

/-- A key is real, or its squared norm is infinite. -/
theorem real_or_top (u : Fin 7 → EReal) : (∃ v : Fin 7 → ℝ, ∀ d, u d = (v d : EReal)) ∨ sq u = ⊤ := by
  by_cases h : ∃ d, u d = ⊤ ∨ u d = ⊥
  · right
    obtain ⟨d, hd⟩ := h
    have h1 : u d * u d ≤ sq u := Finset.single_le_sum (f := fun d => u d * u d) (fun d _ => mul_self_nonneg' (u d)) (Finset.mem_univ d)
    have h2 : u d * u d = ⊤ := by rcases hd with hd | hd <;> simp [hd]
    exact top_le_iff.mp (h2 ▸ h1)
  · left
    push Not at h
    exact ⟨fun d => (u d).toReal, fun d => (EReal.coe_toReal (h d).1 (h d).2).symm⟩

/-- The squared norm of a real key. -/
theorem sq_coe (v : Fin 7 → ℝ) : sq (fun d => (v d : EReal)) = ((∑ d, v d * v d : ℝ) : EReal) := by
  simp only [sq, coe_sum, ← EReal.coe_mul]

/-- A key of non-zero norm, scaled to length one: real entries whose squares sum to at most one, and the norm and the key
    said by them. -/
theorem normalised (u : Fin 7 → EReal) (h : 0 < Ideal.sqrt (sq u)) :
    ∃ w : Fin 7 → ℝ, (∀ d, u d * Ideal.rsqrt (sq u) = (w d : EReal)) ∧ ∑ d, w d * w d ≤ 1
      ∧ ((∃ (v : Fin 7 → ℝ) (q : ℝ), 0 < q ∧ (∀ d, u d = (v d : EReal)) ∧ Ideal.sqrt (sq u) = (q : EReal) ∧ ∀ d, w d = v d * q⁻¹)
        ∨ (Ideal.sqrt (sq u) = ⊤ ∧ ∀ d, w d = 0)) := by
  rcases real_or_top u with ⟨v, hv⟩ | ht
  · have e : sq u = ((∑ d, v d * v d : ℝ) : EReal) := by rw [← sq_coe]; exact congrArg sq (funext hv)
    have h0 : 0 ≤ ∑ d, v d * v d := Finset.sum_nonneg fun d _ => mul_self_nonneg (v d)
    generalize hq : ∑ d, v d * v d = q at e h0
    have hs : Ideal.sqrt (sq u) = ((Real.sqrt q : ℝ) : EReal) := by
      rw [e, sqrt_coe h0]
    have hpos : 0 < Real.sqrt q := by rw [hs] at h; exact_mod_cast h
    have hq0 : 0 < q := Real.sqrt_pos.mp hpos
    have hr : Ideal.rsqrt (sq u) = (((Real.sqrt q)⁻¹ : ℝ) : EReal) := by
      rw [e, rsqrt_coe hq0]
    refine ⟨fun d => v d * (Real.sqrt q)⁻¹, fun d => by rw [hv, hr, EReal.coe_mul], le_of_eq ?_, .inl ⟨v, _, hpos, hv, hs, fun _ => rfl⟩⟩
    have : ∀ d, v d * (Real.sqrt q)⁻¹ * (v d * (Real.sqrt q)⁻¹) = v d * v d * q⁻¹ := fun d => by
      have : (Real.sqrt q)⁻¹ * (Real.sqrt q)⁻¹ = q⁻¹ := by rw [← mul_inv, Real.mul_self_sqrt h0]
      rw [← this]; ring
    simp only [this]
    rw [← Finset.sum_mul, hq, mul_inv_cancel₀ hq0.ne']
  · refine ⟨fun _ => 0, fun d => ?_, by simp, .inr ⟨by rw [ht]; rfl, fun _ => rfl⟩⟩
    rw [ht, rsqrt_top]
    simp

/-- The two forms of an attention value agree, and are a real number between -1 and 1. -/
theorem attention (u u' : Fin 7 → EReal) (h : 0 < Ideal.sqrt (sq u)) (h' : 0 < Ideal.sqrt (sq u')) :
    ∃ s : ℝ, -1 ≤ s ∧ s ≤ 1 ∧ ∑ d, u d * Ideal.rsqrt (sq u) * (u' d * Ideal.rsqrt (sq u')) = (s : EReal)
      ∧ Ideal.div (∑ d, u d * u' d) (Ideal.sqrt (sq u) * Ideal.sqrt (sq u')) = (s : EReal) := by
  obtain ⟨w, hw, hw1, hc⟩ := normalised u h
  obtain ⟨w', hw', hw1', hc'⟩ := normalised u' h'
  have hcs : (∑ d, w d * w' d) ^ 2 ≤ 1 := by
    refine (Finset.sum_mul_sq_le_sq_mul_sq Finset.univ w w').trans ?_
    have a : ∑ d, w d ^ 2 ≤ 1 := by simpa only [sq, pow_two] using hw1
    have b : ∑ d, w' d ^ 2 ≤ 1 := by simpa only [sq, pow_two] using hw1'
    exact mul_le_one₀ a (Finset.sum_nonneg fun d _ => sq_nonneg (w' d)) b
  have habs := abs_le_of_sq_le_sq' (by simpa using hcs : (∑ d, w d * w' d) ^ 2 ≤ 1 ^ 2) zero_le_one
  refine ⟨∑ d, w d * w' d, habs.1, habs.2, ?_, ?_⟩
  · simp only [hw, hw', coe_sum, EReal.coe_mul]
  · rcases hc with ⟨v, q, hq, hv, hs, hwv⟩ | ⟨hs, hw0⟩
    · rcases hc' with ⟨v', q', hq', hv', hs', hwv'⟩ | ⟨hs', hw0'⟩
      · rw [hs, hs', ← EReal.coe_mul]
        have hne : ((q * q' : ℝ) : EReal) ≠ 0 := by exact_mod_cast (mul_pos hq hq').ne'
        simp only [Ideal.div, if_neg hne, hv, hv', ← EReal.coe_mul, ← coe_sum, ← EReal.coe_inv]
        congr 1
        rw [Finset.sum_mul]
        refine Finset.sum_congr rfl fun d _ => ?_
        rw [hwv, hwv', mul_inv]; ring
      · rw [hs, hs', EReal.coe_mul_top_of_pos hq]
        simp [Ideal.div, hw0']
    · rw [hs, EReal.top_mul_of_pos h']
      simp [Ideal.div, hw0]

end Cert.Cosine
-- ==== Proof.Softmax.lean ====
module

public import proofs.«01_k».proof.Proof.Cosine

/-!
# The weighted mean over the selected values

The reference takes a softmax over a row that is minus infinity outside the selection, shifted by the row's maximum; the
kernel sums exponentials over the selection, unshifted, and divides once. Over real values the two are one quotient.
-/

@[expose] public section

noncomputable section

namespace Cert.Softmax

open Idealize.ShloMosaic Cert.Cosine

variable {n : ℕ} (P : Fin n → Prop) [DecidablePred P] (s o : Fin n → ℝ)

/-- The exponential of a real. -/
theorem exp_coe (r : ℝ) : Ideal.exp (r : EReal) = ((Real.exp r : ℝ) : EReal) := rfl

/-- Division of reals. -/
theorem div_coe (a : ℝ) {b : ℝ} (h : b ≠ 0) : Ideal.div (a : EReal) (b : EReal) = ((a / b : ℝ) : EReal) := by
  have hne : (b : EReal) ≠ 0 := by exact_mod_cast h
  rw [Ideal.div, if_neg hne, ← EReal.coe_inv, ← EReal.coe_mul, div_eq_mul_inv]

/-- The kernel's weights are real. -/
theorem weight_coe (j : Fin n) :
    (if P j then Ideal.exp (s j : EReal) else 0) = ((if P j then Real.exp (s j) else 0 : ℝ) : EReal) := by
  by_cases h : P j <;> simp [h, exp_coe]

/-- The selection's exponentials sum to a positive number. -/
theorem sum_pos (h : ∃ j, P j) : 0 < ∑ j, (if P j then Real.exp (s j) else 0) := by
  obtain ⟨j, hj⟩ := h
  refine Finset.sum_pos' (fun i _ => ?_) ⟨j, Finset.mem_univ j, ?_⟩
  · by_cases hi : P i <;> simp [hi, Real.exp_nonneg]
  · simp [hj, Real.exp_pos]

/-- The kernel's quotient. -/
theorem kernel_eq (h : ∃ j, P j) :
    Ideal.div (∑ j, (if P j then Ideal.exp (s j : EReal) else 0) * (o j : EReal)) (∑ j, (if P j then Ideal.exp (s j : EReal) else 0) * 1)
      = (((∑ j, (if P j then Real.exp (s j) else 0) * o j) / ∑ j, (if P j then Real.exp (s j) else 0) : ℝ) : EReal) := by
  simp only [weight_coe, mul_one, ← EReal.coe_mul, ← coe_sum]
  exact div_coe _ (sum_pos P s h).ne'

/-- The greatest entry of a row that is minus infinity outside the selection is real. -/
theorem max_coe (h : ∃ j, P j) :
    ∃ μ : ℝ, max ⊥ (Finset.univ.fold max ⊥ fun j => if P j then (s j : EReal) else ⊥) = (μ : EReal) := by
  have ht : Finset.univ.fold max ⊥ (fun j => if P j then (s j : EReal) else ⊥) ≠ ⊤ := by
    refine ne_of_lt ((Finset.fold_max_lt _).mpr ⟨bot_lt_top, fun j _ => ?_⟩)
    by_cases hj : P j <;> simp [hj, EReal.coe_lt_top]
  have hb : Finset.univ.fold max ⊥ (fun j => if P j then (s j : EReal) else ⊥) ≠ ⊥ := by
    obtain ⟨j, hj⟩ := h
    refine ne_of_gt ((Finset.lt_fold_max _).mpr (.inr ⟨j, Finset.mem_univ j, ?_⟩))
    simp [hj, EReal.bot_lt_coe]
  exact ⟨_, by rw [max_eq_right bot_le, EReal.coe_toReal ht hb]⟩

/-- The reference's softmax and its weighted sum: the same quotient. -/
theorem reference_eq (h : ∃ j, P j) (M : EReal)
    (hM : M = max ⊥ (Finset.univ.fold max ⊥ fun j => if P j then (s j : EReal) else ⊥)) :
    ∑ j, Ideal.div (Ideal.exp ((if P j then (s j : EReal) else ⊥) - M)) (∑ k, Ideal.exp ((if P k then (s k : EReal) else ⊥) - M)) * (o j : EReal)
      = (((∑ j, (if P j then Real.exp (s j) else 0) * o j) / ∑ j, (if P j then Real.exp (s j) else 0) : ℝ) : EReal) := by
  obtain ⟨μ, hμ⟩ := max_coe P s h
  rw [hμ] at hM
  subst hM
  have e : ∀ j, Ideal.exp ((if P j then (s j : EReal) else ⊥) - (μ : EReal))
      = ((Real.exp (-μ) * (if P j then Real.exp (s j) else 0) : ℝ) : EReal) := by
    intro j
    by_cases hj : P j
    · rw [if_pos hj, if_pos hj, ← EReal.coe_sub, exp_coe, ← Real.exp_add]
      congr 2; ring
    · rw [if_neg hj, if_neg hj, mul_zero]
      rfl
  simp only [e, ← coe_sum]
  have hp := sum_pos P s h
  have hne : ∑ j, Real.exp (-μ) * (if P j then Real.exp (s j) else 0) ≠ 0 := by
    rw [← Finset.mul_sum]; exact (mul_pos (Real.exp_pos _) hp).ne'
  simp only [div_coe _ hne, ← EReal.coe_mul, ← coe_sum]
  congr 1
  rw [← Finset.mul_sum, Finset.sum_div]
  refine Finset.sum_congr rfl fun j _ => ?_
  rw [mul_div_mul_left _ _ (Real.exp_pos (-μ)).ne']
  ring

end Cert.Softmax
-- ==== Proof.Terms.lean ====
module

public import proofs.«01_k».proof.Proof.Cosine
public import Idealize.ShloMosaic.Lib.Pointwise

/-!
# The terms both programs are said in

Keys, attention values and clipped values, as functions of the three arguments.
-/

@[expose] public section

noncomputable section

namespace Cert.Terms

open Idealize.ShloMosaic Cert.Cosine

/-- The first argument's contents. -/
abbrev Points := (⟨2, ![8192, 8]⟩ : Shape).Idx → EReal

/-- The second argument's contents. -/
abbrev Weights := (⟨2, ![7, 7]⟩ : Shape).Idx → EReal

/-- The third argument's contents. -/
abbrev Scale := (⟨1, ![7]⟩ : Shape).Idx → EReal

variable (X : Points) (W : Weights) (A : Scale)

/-- Entry `d` of key `j`: the points without their last column. -/
def key (j : Fin 8192) (d : Fin 7) : EReal := X (ix2 j ⟨d.val, by omega⟩)

/-- A key's norm. -/
def norm (j : Fin 8192) : EReal := Ideal.sqrt (sq (key X j))

/-- The attention value of keys `i` and `j`: their cosine. -/
def att (i j : Fin 8192) : EReal := Ideal.div (∑ d, key X i d * key X j d) (norm X i * norm X j)

/-- The same with each key scaled by the reciprocal of its norm first. -/
def att' (i j : Fin 8192) : EReal :=
  ∑ d, key X i d * Ideal.rsqrt (sq (key X i)) * (key X j d * Ideal.rsqrt (sq (key X j)))

/-- The greatest entry of the scale, as the softmax subtracts it. -/
def scaleMax : EReal :=
  max (Ideal.ofBits FTy.f32 4286578688#32) (Finset.univ.fold max (Ideal.ofBits FTy.f32 4286578688#32) fun x => A (ix1 x))

/-- Entry `d` of the clipped values of point `j`. -/
def clipped (j : Fin 8192) (d : Fin 7) : EReal :=
  min 1 (max (Ideal.ofBits FTy.f32 3212836864#32)
    ((∑ x, key X j x * W (ix2 d x)) * Ideal.div (Ideal.exp (A (ix1 d) - scaleMax A)) (∑ x, Ideal.exp (A (ix1 x) - scaleMax A))))

/-- The lower clip is -1. -/
theorem minus_one : Ideal.ofBits FTy.f32 3212836864#32 = ((-1 : ℝ) : EReal) := by
  simp [Ideal.ofBits, Ideal.ieee, -EReal.coe_mul]
  norm_num

/-- Minus infinity's bits. -/
theorem minus_infinity : Ideal.ofBits FTy.f32 4286578688#32 = ⊥ := by
  simp [Ideal.ofBits, Ideal.ieee]

/-- A clipped value is real. -/
theorem clipped_coe (j : Fin 8192) (d : Fin 7) : ∃ v : ℝ, clipped X W A j d = (v : EReal) := by
  unfold clipped
  rw [minus_one]
  generalize (∑ x, key X j x * W (ix2 d x)) * _ = z
  have h1 : min 1 (max ((-1 : ℝ) : EReal) z) ≠ ⊤ := ne_of_lt ((min_le_left _ _).trans_lt (EReal.coe_lt_top 1))
  have h2 : min 1 (max ((-1 : ℝ) : EReal) z) ≠ ⊥ :=
    ne_of_gt (lt_min (EReal.bot_lt_coe 1) ((EReal.bot_lt_coe (-1)).trans_le (le_max_left _ _)))
  exact ⟨_, (EReal.coe_toReal h1 h2).symm⟩

/-- Where no key's norm is zero, the two attention values are one real number. -/
theorem att_coe (h : ∀ j, 0 < norm X j) (i j : Fin 8192) :
    ∃ s : ℝ, -1 ≤ s ∧ s ≤ 1 ∧ att' X i j = (s : EReal) ∧ att X i j = (s : EReal) :=
  attention (key X i) (key X j) (h i) (h j)

end Cert.Terms
-- ==== Proof.KernelValue.lean ====
module

public import proofs.«01_k».proof.Proof.Array
public import proofs.«01_k».proof.Proof.Select
public import proofs.«01_k».proof.Proof.Softmax
public import proofs.«01_k».proof.Proof.Terms

/-!
# What a row of the kernel's result is

Said of the arguments: the attention values a block computes, the clipped values, the interval the bisection ends with,
and the quotient of sums that is stored.
-/

@[expose] public section

set_option maxRecDepth 16384

noncomputable section

namespace Cert.KernelIdeal.Block

open Idealize.ShloMosaic Idealize.ShloMosaic.TcCoe Idealize.ShloMosaic.Tactic
open Cert.KernelIdeal.Gen Cert.KernelIdeal.Value Cert.Cosine

/-- The width the bisection starts from, as a real number. -/
def width : ℝ := 8556380 / 8388608

/-- Its bits. -/
theorem width_bits : Ideal.ofBits FTy.f32 0x3F828F5C#32 = (width : EReal) := by
  simp [Ideal.ofBits, Ideal.ieee, -EReal.coe_mul, width]
  norm_num

/-- The bits of one half. -/
theorem half_bits : Ideal.ofBits FTy.f32 1056964608#32 = ((1 / 2 : ℝ) : EReal) := by
  simp [Ideal.ofBits, Ideal.ieee, -EReal.coe_mul]
  norm_num

/-- The upper end the bisection starts from. -/
theorem start_hi (p : Fin 512) : k0_pay126 (F := Ideal) (ix2 p 0) = (width : EReal) := by
  pointwise [k0_pay126]
  exact width_bits

/-- The lower end the bisection starts from. -/
theorem start_lo (p : Fin 512) : k0_pay127 (F := Ideal) (ix2 p 0) = ((-width : ℝ) : EReal) := by
  pointwise [k0_pay127]
  rw [start_hi, zero_sub, EReal.coe_neg]

/-- The middle of an interval. -/
theorem mid_apply (a b : FVec Ideal S512x1 .f32) (p : Fin 512) (l h : ℝ) (ha : a (ix2 p 0) = (l : EReal)) (hb : b (ix2 p 0) = (h : EReal)) :
    k0_pay128 a b (ix2 p 0) = (((l + h) / 2 : ℝ) : EReal) := by
  pointwise [k0_pay128]
  rw [half_bits, ha, hb, ← EReal.coe_add, ← EReal.coe_mul]
  congr 1
  ring

/-- The lower end moves up to the middle where the test holds. -/
theorem lo_apply (a b : FVec Ideal S512x1 .f32) (ge : IVec S512x1 1) (p : Fin 512) :
    k0_pay130 a b ge (ix2 p 0) = Scalar.select (ge (ix2 p 0)) (b (ix2 p 0)) (a (ix2 p 0)) := by
  pointwise [k0_pay130]

/-- The upper end moves down to the middle where it does not. -/
theorem hi_apply (a b : FVec Ideal S512x1 .f32) (ge : IVec S512x1 1) (p : Fin 512) :
    k0_pay131 a b ge (ix2 p 0) = Scalar.select (ge (ix2 p 0)) (a (ix2 p 0)) (b (ix2 p 0)) := by
  pointwise [k0_pay131]

section Bisect

variable (v3 : Vec Ideal S512x7 .f32) (v11 : Vec Ideal S7x8192 .f32) (p : Fin 512) (v : ℝ)

/-- Row `p`'s interval is real, holds `v`, is as wide as `w`, and starts a number of times `w` above the bisection's start. -/
def Holds (w : ℝ) (b : FVec Ideal S512x1 .f32 × FVec Ideal S512x1 .f32) : Prop :=
  ∃ l h : ℝ, b.1 (ix2 p 0) = (l : EReal) ∧ b.2 (ix2 p 0) = (h : EReal) ∧ l ≤ v ∧ v < h ∧ h - l = w
    ∧ ∃ a : ℤ, l = a * w - width

variable (H : ∀ t : ℝ, 32 ≤ ∑ l, min 4 (laneCount v3 v11 p l (t : EReal)) ↔ t ≤ v)

include H in
/-- A step halves the interval about `v`. -/
theorem step_holds (w : ℝ) (b : FVec Ideal S512x1 .f32 × FVec Ideal S512x1 .f32) (hb : Holds p v w b) :
    Holds p v (w / 2) (step v3 v11 b) := by
  obtain ⟨l, h, hl, hh, hlv, hvh, hw, a, ha⟩ := hb
  have hm := mid_apply b.1 b.2 p l h hl hh
  have hr := reached_apply v3 v11 (k0_pay128 b.1 b.2) p
  rw [hm] at hr
  by_cases hv : (l + h) / 2 ≤ v
  · rw [decide_eq_true ((H _).mpr hv)] at hr
    refine ⟨(l + h) / 2, h, ?_, ?_, hv, hvh, by rw [← hw]; ring, 2 * a + 1, by push_cast; linarith⟩
    · refine (lo_apply _ _ _ p).trans ?_; rw [hr, hm]; rfl
    · refine (hi_apply _ _ _ p).trans ?_; rw [hr, hh]; rfl
  · rw [decide_eq_false (mt (H _).mp hv)] at hr
    refine ⟨l, (l + h) / 2, ?_, ?_, hlv, not_le.mp hv, by rw [← hw]; ring, 2 * a, by push_cast; linarith⟩
    · refine (lo_apply _ _ _ p).trans ?_; rw [hr, hl]; rfl
    · refine (hi_apply _ _ _ p).trans ?_; rw [hr, hm]; rfl

include H in
/-- Steps, as many as a list has entries. -/
theorem steps_hold {n : ℕ} : ∀ (ks : List (Fin n)) (w : ℝ) (b : FVec Ideal S512x1 .f32 × FVec Ideal S512x1 .f32),
    Holds p v w b → Holds p v (w / 2 ^ ks.length) (ks.foldl (fun b _ => step v3 v11 b) b)
  | [], w, b, hb => by simpa using hb
  | _ :: ks, w, b, hb => by
    have h := steps_hold ks (w / 2) (step v3 v11 b) (step_holds v3 v11 p v H w b hb)
    rw [List.foldl_cons, List.length_cons, pow_succ']
    rwa [div_div] at h

include H in
/-- The interval the bisection ends with. -/
theorem bisect_holds (h1 : -width ≤ v) (h2 : v < width) : Holds p v (width / 65536) (bisect v3 v11) := by
  unfold bisect
  rw [Scf.fold_eq]
  have h := steps_hold v3 v11 p v H (List.finRange k0_t1_loop.trips) (2 * width) (k0_pay127, k0_pay126)
    ⟨-width, width, start_lo p, start_hi p, h1, h2, by ring, 0, by simp⟩
  have e : 2 * width / 2 ^ (List.finRange k0_t1_loop.trips).length = width / 65536 := by
    rw [List.length_finRange, show k0_t1_loop.trips = 17 from by decide]
    ring
  rwa [e] at h

end Bisect

section Rows

variable (m : (ℓ : Loc nD τ sig) → Buf (Elt Ideal) ℓ) (c : Dev nD)

/-- The points, as the terms take them. -/
abbrev X : Terms.Points := m ((c : Thread nD τ).loc main_arg0)
/-- The weights. -/
abbrev W : Terms.Weights := m ((c : Thread nD τ).loc main_arg1)
/-- The scale. -/
abbrev A : Terms.Scale := m ((c : Thread nD τ).loc main_arg2)

/-- The scratch values are the clipped values. -/
theorem values_apply (j : Fin 8192) (d : Fin 7) :
    values m c (ix2 j ⟨d.val, by omega⟩) = Terms.clipped (X m c) (W m c) (A m c) j d := by
  unfold values
  pointwise [k0_pay3, k0_pay1, keysT, scale]
  rfl

/-- Their last column is ones. -/
theorem values_last (j : Fin 8192) : values m c (ix2 j 7) = 1 := by
  unfold values
  pointwise [k0_pay3, k0_pay1, keysT, scale]

/-- The attention values of the block that holds row `r`. -/
theorem att_apply (r j : Fin 8192) :
    k0_pay4 (rows m c ⟨r.val / 512, by omega⟩) (keysN m c) (ix2 ⟨r.val % 512, Nat.mod_lt _ (by decide)⟩ j)
      = Terms.att' (X m c) r j := by
  unfold keysN
  pointwise [k0_pay4, k0_pay2, k0_pay1, keysT, rows]
  have hr : ∀ h : 512 * (r.val / 512) + r.val % 512 < 8192, (⟨512 * (r.val / 512) + r.val % 512, h⟩ : Fin 8192) = r :=
    fun h => Fin.ext (Nat.div_add_mod _ _)
  simp only [hr]
  rfl

end Rows

/-- What is stored at an entry, from the attention values, the interval's lower end and the values. -/
theorem stored_apply (v3 : Vec Ideal S512x7 .f32) (v11 : Vec Ideal S7x8192 .f32) (v265 : Vec Ideal S8192x8 .f32) (p : Fin 512)
    (d : Fin 7) : stored v3 v11 v265 (ix2 p d)
      = Ideal.div (∑ j, (if (bisect v3 v11).1 (ix2 p 0) ≤ k0_pay4 v3 v11 (ix2 p j) then Ideal.exp (k0_pay4 v3 v11 (ix2 p j)) else 0)
          * v265 (ix2 j ⟨d.val, by omega⟩))
        (∑ j, (if (bisect v3 v11).1 (ix2 p 0) ≤ k0_pay4 v3 v11 (ix2 p j) then Ideal.exp (k0_pay4 v3 v11 (ix2 p j)) else 0)
          * v265 (ix2 j 7)) := by
  unfold stored
  pointwise [k0_pay132]

end Cert.KernelIdeal.Block
-- ==== Proof.Reduce.lean ====
module

public import Idealize.ShloMosaic.Lib.Pointwise

/-!
# A host reduction along one axis, read at one place

Stated at shapes of any size, for an operation that commutes and associates.
-/

@[expose] public section

noncomputable section

namespace Cert.Reduce

open Idealize.ShloMosaic

variable {α : Type} (f : α → α → α) [Std.Commutative f] [Std.Associative f] {u : Shape} (init : u.Idx → α) (hu : 0 < u.numel)

/-- Along a matrix's rows. -/
theorem row {R C : Nat} (h : (⟨2, ![R, C]⟩ : Shape).ReducesTo [1] ⟨1, ![R]⟩) (h' : (⟨2, ![R, C]⟩ : Shape).Reduces [1] ⟨1, ![R]⟩)
    (x : (⟨2, ![R, C]⟩ : Shape).Idx → α) (i : Fin R) :
    Host.reduce f x init h hu (ix1 i) = Finset.univ.fold f (init (Shape.Idx.first hu)) fun k : Fin C => x (ix2 i k) := by
  rw [Host.reduce_eq_fold_single f x init h h' hu]
  have e : (x ∘ h'.lift (ix1 i)) = fun k : Fin C => x (ix2 i k) := funext fun k => congrArg x (by
    funext c
    apply Fin.ext
    fin_cases c <;> rfl)
  exact congrArg (fun g => Finset.fold f _ g (Finset.univ : Finset (Fin C))) e

/-- Along the middle axis of three. -/
theorem middle {R G C : Nat} (h : (⟨3, ![R, G, C]⟩ : Shape).ReducesTo [1] ⟨2, ![R, C]⟩)
    (h' : (⟨3, ![R, G, C]⟩ : Shape).Reduces [1] ⟨2, ![R, C]⟩)
    (x : (⟨3, ![R, G, C]⟩ : Shape).Idx → α) (i : Fin R) (l : Fin C) :
    Host.reduce f x init h hu (ix2 i l) = Finset.univ.fold f (init (Shape.Idx.first hu)) fun k : Fin G => x (ix3 i k l) := by
  rw [Host.reduce_eq_fold_single f x init h h' hu]
  have e : (x ∘ h'.lift (ix2 i l)) = fun k : Fin G => x (ix3 i k l) := funext fun k => congrArg x (by
    funext c
    apply Fin.ext
    fin_cases c <;> rfl)
  exact congrArg (fun g => Finset.fold f _ g (Finset.univ : Finset (Fin G))) e

/-- Along a whole vector. -/
theorem whole {R : Nat} (h : (⟨1, ![R]⟩ : Shape).ReducesTo [0] ⟨0, ![]⟩) (x : (⟨1, ![R]⟩ : Shape).Idx → α) :
    Host.reduce f x init h hu ix0 = Finset.univ.fold f (init (Shape.Idx.first hu)) fun k : Fin R => x (ix1 k) := by
  rw [Host.reduce_eq_fold]
  refine Finset.fold_filter_eq_fold_of_fiber f _ (fun k : Fin R => (ix1 k : (⟨1, ![R]⟩ : Shape).Idx)) ?_ ?_ _ x
  · intro a b hab
    exact congrFun hab 0
  · intro j
    refine ⟨fun _ => ⟨j 0, funext fun c => ?_⟩, fun _ => funext fun c => c.elim0⟩
    fin_cases c
    rfl

end Cert.Reduce
-- ==== Proof.Sorted.lean ====
module

public import Idealize.ShloMosaic.Lib.SortFacts
public import Idealize.ShloMosaic.Lib.Pointwise

/-!
# The greatest entries of a row

Both the reference and the mask take the first entries of each row of a matrix in descending order. One
permutation of the row, `order x i`, says which entries these are.
-/

@[expose] public section

set_option maxRecDepth 16384

noncomputable section

namespace Cert.Sorted

open Idealize.ShloMosaic

/-- A square matrix of the points' number. -/
abbrev Square := (⟨2, ![8192, 8192]⟩ : Shape).Idx → EReal

/-- The columns of row `i` in descending order of their entries. -/
def order (x : Square) (i k : Fin 8192) : Fin 8192 :=
  sortedFrom (fun a b => decide (x (ix2 i b) < x (ix2 i a))) k

/-- The order is a permutation. -/
theorem order_bijective (x : Square) (i : Fin 8192) : Function.Bijective (order x i) :=
  ⟨sortedFrom_injective _, sortedFrom_surjective _⟩

/-- Along the order the entries do not increase. -/
theorem order_antitone (x : Square) (i a b : Fin 8192) (h : a < b) :
    x (ix2 i (order x i b)) ≤ x (ix2 i (order x i a)) := by
  have := sortedFrom_noInversion (fun a b => decide (x (ix2 i b) < x (ix2 i a)))
    (fun a b => decide (x (ix2 i b) < x (ix2 i a)))
    (fun a b h => decide_eq_false (lt_asymm (of_decide_eq_true h)))
    (fun _ _ h => h)
    (fun a b c h h' => decide_eq_false (not_lt.mpr
      ((not_lt.mp (of_decide_eq_false h)).trans (not_lt.mp (of_decide_eq_false h'))))) a b h
  exact not_lt.mp (of_decide_eq_false this)

/-- The sort's comparison, read as the order of the extended reals. -/
theorem before_eq (x : Square) (i : Fin 8192) :
    (fun a b : Fin 8192 => (FloatOps.cmpfTotal (F := Ideal) (φ := .f32) .gt (x (ix2 i a)) (x (ix2 i b)) == 1#1))
      = fun a b => decide (x (ix2 i b) < x (ix2 i a)) := by
  funext a b
  show (BitVec.ofBool (decide (x (ix2 i b) < x (ix2 i a))) == 1#1) = _
  cases decide (x (ix2 i b) < x (ix2 i a)) <;> rfl

/-- A sort carrying the columns, read at one place: the entry, and its column, at the order's column. -/
theorem sort_apply (x : Square) (y : IVec (⟨2, ![8192, 8192]⟩ : Shape) 32) (i k : Fin 8192) :
    (Host.sort2 ⟨2, ![8192, 8192]⟩ 1
        (fun l r => FloatOps.cmpfTotal (F := Ideal) (φ := .f32) .gt l.1 r.1) x y).1 (ix2 i k) = x (ix2 i (order x i k))
    ∧ (Host.sort2 ⟨2, ![8192, 8192]⟩ 1
        (fun l r => FloatOps.cmpfTotal (F := Ideal) (φ := .f32) .gt l.1 r.1) x y).2 (ix2 i k)
      = y (ix2 i (order x i k)) := by
  have line : ∀ c : Fin 8192, (ix2 i k : (⟨2, ![8192, 8192]⟩ : Shape).Idx).along 1 c = ix2 i c := by
    intro c
    funext d
    fin_cases d <;> rfl
  have chosen : sortedFrom (fun a b : Fin 8192 =>
      FloatOps.cmpfTotal (F := Ideal) (φ := .f32) .gt
        (x ((ix2 i k : (⟨2, ![8192, 8192]⟩ : Shape).Idx).along 1 a))
        (x ((ix2 i k : (⟨2, ![8192, 8192]⟩ : Shape).Idx).along 1 b)) == 1#1) k = order x i k := by
    simp only [line]
    unfold order
    rw [before_eq]
  constructor
  · refine Eq.trans ?_ (congrArg x ((congrArg _ chosen).trans (line _)))
    unfold Host.sort2
    rw [dif_pos (by decide)]
    rfl
  · refine Eq.trans ?_ (congrArg y ((congrArg _ chosen).trans (line _)))
    unfold Host.sort2
    rw [dif_pos (by decide)]
    rfl

/-- Entry `k` of the first `n` of row `i` is the entry at the order's column `k`. -/
theorem top_value {n : Nat} (hn : n ≤ 8192) (x : Square)
    (h : (⟨2, ![8192, 8192]⟩ : Shape).Slices (fun _ => 0) ⟨2, ![8192, n]⟩) (i : Fin 8192) (k : Fin n) :
    (Host.topK ⟨2, ![8192, n]⟩ 1 (FloatOps.cmpfTotal (F := Ideal) (φ := .f32) .gt) x h).1 (ix2 i k)
      = x (ix2 i (order x i ⟨k.val, by omega⟩)) := by
  refine Eq.trans ?_ (sort_apply x (fun j => iotaInDim _ 32 1 j) i ⟨k.val, by omega⟩).1
  unfold Host.topK extractStridedSlice
  change (Host.sort2 ⟨2, ![8192, 8192]⟩ 1
    (fun l r => FloatOps.cmpfTotal (F := Ideal) (φ := .f32) .gt l.1 r.1) x
    (fun j => iotaInDim _ 32 1 j)).1 _ = _
  refine congrArg _ ?_
  funext d
  fin_cases d
  · exact Fin.ext (Nat.zero_add i.val)
  · exact Fin.ext (Nat.zero_add k.val)

/-- Its column, as a word. -/
theorem top_index {n : Nat} (hn : n ≤ 8192) (x : Square)
    (h : (⟨2, ![8192, 8192]⟩ : Shape).Slices (fun _ => 0) ⟨2, ![8192, n]⟩) (i : Fin 8192) (k : Fin n) :
    (Host.topK ⟨2, ![8192, n]⟩ 1 (FloatOps.cmpfTotal (F := Ideal) (φ := .f32) .gt) x h).2 (ix2 i k)
      = BitVec.ofNat 32 (order x i ⟨k.val, by omega⟩).val := by
  have column : ∀ c : Fin 8192, iotaInDim ⟨2, ![8192, 8192]⟩ 32 1 (ix2 i c) = BitVec.ofNat 32 c.val := fun _ => rfl
  rw [← column]
  refine Eq.trans ?_ (sort_apply x (fun j => iotaInDim _ 32 1 j) i ⟨k.val, by omega⟩).2
  unfold Host.topK extractStridedSlice
  change (Host.sort2 ⟨2, ![8192, 8192]⟩ 1
    (fun l r => FloatOps.cmpfTotal (F := Ideal) (φ := .f32) .gt l.1 r.1) x
    (fun j => iotaInDim _ 32 1 j)).2 _ = _
  refine congrArg _ ?_
  funext d
  fin_cases d
  · exact Fin.ext (Nat.zero_add i.val)
  · exact Fin.ext (Nat.zero_add k.val)

end Cert.Sorted
-- ==== Proof.RefValue.lean ====
module

public import proofs.«01_k».proof.Proof.Gen.ReferenceIdeal.Run
public import proofs.«01_k».proof.Proof.Reduce
public import proofs.«01_k».proof.Proof.Sorted
public import proofs.«01_k».proof.Proof.Terms
public import Idealize.ShloMosaic.Lib.Routing.OpsSet
public import Idealize.ShloMosaic.Lib.Routing.OpsPair

/-!
# What the reference computes

The attention matrix, its 32 greatest entries per row written over minus infinity, the softmax of that, and its
product with the clipped values.
-/

@[expose] public section

set_option maxRecDepth 16384

noncomputable section

namespace Cert.ReferenceIdeal.Row

open Idealize.ShloMosaic Idealize.ShloMosaic.TcCoe Idealize.ShloMosaic.Tactic
open Cert.ReferenceIdeal Cert.ReferenceIdeal.Gen Cert.ReferenceIdeal.Value Cert.Cosine

variable (x : FVec Ideal S8192x8 .f32) (w : FVec Ideal S7x7 .f32) (a : FVec Ideal S7 .f32)

/-- The points without their last column. -/
def keys : FVec Ideal S8192x7 .f32 := extractStridedSlice S8192x7 ![0, 0] x slices_S8192x8_S8192x7_0_0

/-- The keys' norms. -/
def norms : FVec Ideal S8192 .f32 :=
  Host.sqrt (Host.reduceAdd (mulf (keys x) (keys x)) (constant S_ .f32 0x00000000#32) reducesTo_S8192x7_S8192_d1 h_S_)

/-- The attention matrix. -/
def attention : FVec Ideal S8192x8192 .f32 :=
  Host.divf
    (Host.dotGeneral dot_S8192x7_S7x8192_S8192x8192_1_0_0_1_n_n none (keys x)
      (transpose S7x8192 [1, 0] (keys x) transposes_S8192x7_S7x8192_1_0))
    (mulf
      (broadcastInDim S8192x8192 ![0, 1] bcast_S8192x1_S8192x8192_0_1
        (broadcastInDim S8192x1 ![0] bcast_S8192_S8192x1_0 (norms x)))
      (broadcastInDim S8192x8192 ![0, 1] bcast_S1x8192_S8192x8192_0_1
        (broadcastInDim S1x8192 ![1] bcast_S8192_S1x8192_1 (norms x))))

/-- The exponentials of the scale, its greatest entry subtracted. -/
def scaleExp : FVec Ideal S7 .f32 :=
  Host.exp (subf a (broadcastInDim S7 ![0] bcast_S1_S7_0 (broadcastInDim S1 ![] bcast_S_S1
    (maximumf (constant S_ .f32 0xFF800000#32)
      (Host.reduce FloatOps.maximumf a (constant S_ .f32 0xFF800000#32) reducesTo_S7_S_d0 h_S_)))))

/-- The clipped values. -/
def clip : FVec Ideal S8192x7 .f32 :=
  minimumf (broadcastInDim S8192x7 ![] bcast_S_S8192x7 (id (constant S_ .f32 0x3F800000#32)))
    (maximumf (broadcastInDim S8192x7 ![] bcast_S_S8192x7 (id (constant S_ .f32 0xBF800000#32)))
      (mulf
        (Host.dotGeneral dot_S8192x7_S7x7_S8192x7_1_0_0_1_n_n none (keys x)
          (transpose S7x7 [1, 0] w transposes_S7x7_S7x7_1_0))
        (broadcastInDim S8192x7 ![0, 1] bcast_S1x7_S8192x7_0_1 (broadcastInDim S1x7 ![1] bcast_S7_S1x7_1
          (Host.divf (scaleExp a) (broadcastInDim S7 ![0] bcast_S1_S7_0 (broadcastInDim S1 ![] bcast_S_S1
            (Host.reduceAdd (scaleExp a) (constant S_ .f32 0x00000000#32) reducesTo_S7_S_d0 h_S_))))))))

/-- The row numbers, as words. -/
def rowWords : IVec S8192x1 32 := broadcastInDim S8192x1 ![0] bcast_S8192_S8192x1_0 (iotaInDim S8192 32 0)

/-- The row numbers, counted from the end where negative. -/
def rowTable : IVec S8192x1 32 :=
  select (cmpi .slt rowWords (broadcastInDim S8192x1 ![] bcast_S_S8192x1 (constantI S_ 32 0#32)))
    (addi rowWords (broadcastInDim S8192x1 ![] bcast_S_S8192x1 (constantI S_ 32 8192#32))) rowWords

/-- The columns given, counted from the end where negative. -/
def columnTable (i : IVec S8192x32 32) : IVec S8192x32 32 :=
  select (cmpi .slt i (broadcastInDim S8192x32 ![] bcast_S_S8192x32 (constantI S_ 32 0#32)))
    (addi i (broadcastInDim S8192x32 ![] bcast_S_S8192x32 (constantI S_ 32 8192#32))) i

/-- The pairs of a row and a column that are written. -/
def table (i : IVec S8192x32 32) : IVec S8192x32x2 32 :=
  concatenate S8192x32x2 2
    [⟨S8192x32x1, broadcastInDim S8192x32x1 ![0, 1] bcast_S8192x32_S8192x32x1_0_1
        (broadcastInDim S8192x32 ![0, 1] bcast_S8192x1_S8192x32_0_1 rowTable)⟩,
      ⟨S8192x32x1, broadcastInDim S8192x32x1 ![0, 1] bcast_S8192x32_S8192x32x1_0_1 (columnTable i)⟩]
    concatenates_S8192x32x1_S8192x32x1_S8192x32x2_d2

/-- The greatest 32 of each row in their places, minus infinity elsewhere. -/
def kept (z : FVec Ideal S8192x8192 .f32) : FVec Ideal S8192x8192 .f32 :=
  Host.scatter scatter_S8192x8192_S8192x32x2_S8192x32_n_01_01_2 (fun _ b => b)
    (broadcastInDim S8192x8192 ![] bcast_S_S8192x8192 (constant S_ .f32 0xFF800000#32))
    (table (Host.topK S8192x32 1 (FloatOps.cmpfTotal .gt) z sliceFits_S8192x8192_S8192x32).2)
    (Host.topK S8192x32 1 (FloatOps.cmpfTotal .gt) z sliceFits_S8192x8192_S8192x32).1

/-- Each row's greatest entry. -/
def rowMax (z : FVec Ideal S8192x8192 .f32) : FVec Ideal S8192 .f32 :=
  maximumf (broadcastInDim S8192 ![] bcast_S_S8192 (constant S_ .f32 0xFF800000#32))
    (Host.reduce FloatOps.maximumf z (constant S_ .f32 0xFF800000#32) reducesTo_S8192x8192_S8192_d1 h_S_)

/-- The exponentials of a matrix, each row's greatest entry subtracted. -/
def rowExp (z : FVec Ideal S8192x8192 .f32) : FVec Ideal S8192x8192 .f32 :=
  Host.exp (subf z (broadcastInDim S8192x8192 ![0, 1] bcast_S8192x1_S8192x8192_0_1
    (broadcastInDim S8192x1 ![0] bcast_S8192_S8192x1_0 (rowMax z))))

/-- Each row's sum. -/
def rowSum (z : FVec Ideal S8192x8192 .f32) : FVec Ideal S8192 .f32 :=
  Host.reduceAdd z (constant S_ .f32 0x00000000#32) reducesTo_S8192x8192_S8192_d1 h_S_

/-- The softmax of each row. -/
def softmax (z : FVec Ideal S8192x8192 .f32) : FVec Ideal S8192x8192 .f32 :=
  Host.divf (rowExp z) (broadcastInDim S8192x8192 ![0, 1] bcast_S8192x1_S8192x8192_0_1
    (broadcastInDim S8192x1 ![0] bcast_S8192_S8192x1_0 (rowSum (rowExp z))))

/-- The result. -/
def result : FVec Ideal S8192x7 .f32 :=
  Host.dotGeneral dot_S8192x8192_S8192x7_S8192x7_1_0_0_1_n_n none (softmax (kept (attention x))) (clip x w a)

/-- The reference leaves the result so put together. -/
theorem res_eq (m : (ℓ : Loc nD τ sig) → Buf (Elt Ideal) ℓ) (c : Dev nD) :
    res_main_v57 m c = result (m ((c.tc : Thread nD τ).loc main_arg0)) (m ((c.tc : Thread nD τ).loc main_arg1))
      (m ((c.tc : Thread nD τ).loc main_arg2)) := rfl

/-- A key's norm. -/
theorem norms_apply (j : Fin 8192) : norms x (ix1 j) = Terms.norm x j := by
  pointwise [norms, keys]
  rfl

/-- The attention of two keys. -/
theorem attention_apply (i j : Fin 8192) : attention x (ix2 i j) = Terms.att x i j := by
  pointwise [attention, keys]
  rw [norms_apply, norms_apply]
  rfl

/-- The clipped value of a point. -/
theorem clip_apply (j : Fin 8192) (d : Fin 7) : clip x w a (ix2 j d) = Terms.clipped x w a j d := by
  pointwise [clip, scaleExp, keys, id]
  rfl

/-- An entry of the result: the sum along the row of the softmax times the clipped values. -/
theorem result_apply (i : Fin 8192) (d : Fin 7) :
    result x w a (ix2 i d) = ∑ j : Fin 8192, softmax (kept (attention x)) (ix2 i j) * Terms.clipped x w a j d := by
  pointwise [result]
  simp only [clip_apply]

/-- The rows' axis is dropped. -/
theorem reduces_rows : S8192x8192.Reduces [1] S8192 := ⟨rfl, Nat.one_pos, reducesTo_S8192x8192_S8192_d1.2⟩

/-- The reduction to each row's greatest entry. -/
theorem greatest (z : FVec Ideal S8192x8192 .f32) (i : Fin 8192) :
    Host.reduce (max : EReal → EReal → EReal) z (constant (F := Ideal) S_ .f32 0xFF800000#32)
        reducesTo_S8192x8192_S8192_d1 h_S_ (ix1 i)
      = Finset.univ.fold max (constant (F := Ideal) S_ .f32 0xFF800000#32 (Shape.Idx.first h_S_)) fun k => z (ix2 i k) :=
  Reduce.row (max : EReal → EReal → EReal) (constant (F := Ideal) S_ .f32 0xFF800000#32) h_S_
    reducesTo_S8192x8192_S8192_d1 reduces_rows z i

/-- A row's greatest entry. -/
theorem rowMax_apply (z : FVec Ideal S8192x8192 .f32) (i : Fin 8192) :
    rowMax z (ix1 i) = max ⊥ (Finset.univ.fold max ⊥ fun k => z (ix2 i k)) := by
  unfold rowMax
  rw [maximumf_apply, Ideal.maximumf_eq_max, greatest]
  have bits : (constant (F := Ideal) S_ .f32 0xFF800000#32) (Shape.Idx.first h_S_) = (⊥ : EReal) := Terms.minus_infinity
  rw [bits]
  generalize (Finset.fold max _ _ _ : EReal) = u
  exact congrArg (fun b => max b u) Terms.minus_infinity

/-- An exponential. -/
theorem rowExp_apply (z : FVec Ideal S8192x8192 .f32) (i j : Fin 8192) :
    rowExp z (ix2 i j) = Ideal.exp (z (ix2 i j) - rowMax z (ix1 i)) := by
  pointwise [rowExp]

/-- A row's sum. -/
theorem rowSum_apply (z : FVec Ideal S8192x8192 .f32) (i : Fin 8192) :
    rowSum z (ix1 i) = ∑ k, z (ix2 i k) := by
  pointwise [rowSum]

/-- An entry of the softmax. -/
theorem softmax_apply (z : FVec Ideal S8192x8192 .f32) (i j : Fin 8192) (M : EReal)
    (hM : M = max ⊥ (Finset.univ.fold max ⊥ fun k => z (ix2 i k))) :
    softmax z (ix2 i j) = Ideal.div (Ideal.exp (z (ix2 i j) - M)) (∑ k, Ideal.exp (z (ix2 i k) - M)) := by
  pointwise [softmax]
  rw [rowSum_apply]
  simp only [rowExp_apply, rowMax_apply]
  rw [← hM]

end Cert.ReferenceIdeal.Row
-- ==== Proof.Kept.lean ====
module

public import proofs.«01_k».proof.Proof.RefValue

/-!
# The entries the reference keeps

Written over minus infinity are, in each row, the entries at the first 32 columns of the row's order.
-/

@[expose] public section

set_option maxRecDepth 16384

noncomputable section

namespace Cert.ReferenceIdeal.Row

open Idealize.ShloMosaic Idealize.ShloMosaic.TcCoe Idealize.ShloMosaic.Tactic
open Cert.ReferenceIdeal Cert.ReferenceIdeal.Gen Cert.ReferenceIdeal.Value

/-- A word below 8192 is not negative. -/
theorem word_small (n : Nat) (h : n < 8192) : (BitVec.ofNat 32 n).toNat < 2 ^ (32 - 1) := by
  rw [BitVec.toNat_ofNat]
  omega

/-- Read signed, it is the number. -/
theorem word_toInt (n : Nat) (h : n < 8192) : (BitVec.ofNat 32 n).toInt = n := by
  rw [BitVec.toInt_eq_toNat_of_lt (by rw [BitVec.toNat_ofNat]; omega), BitVec.toNat_ofNat]
  omega

/-- The row of a written entry. -/
theorem rowTable_apply (i : Fin 8192) : rowTable (ix2 i 0) = BitVec.ofNat 32 i.val :=
  Routing.wrap_of_lt (BitVec.ofNat 32 i.val) _ (word_small _ i.isLt)

/-- The column of a written entry. -/
theorem columnTable_apply (v : IVec S8192x32 32) (i : Fin 8192) (k : Fin 32) (n : Fin 8192)
    (h : v (ix2 i k) = BitVec.ofNat 32 n.val) : columnTable v (ix2 i k) = BitVec.ofNat 32 n.val := by
  refine Eq.trans ?_ h
  exact Routing.wrap_of_lt (v (ix2 i k)) _ (by rw [h]; exact word_small _ n.isLt)

/-- The table's first half. -/
theorem table_row (v : IVec S8192x32 32) (i : Fin 8192) (k : Fin 32) : table v (ix3 i k 0) = rowTable (ix2 i 0) := by
  pointwise [table]

/-- The table's second half. -/
theorem table_column (v : IVec S8192x32 32) (i : Fin 8192) (k : Fin 32) : table v (ix3 i k 1) = columnTable v (ix2 i k) := by
  pointwise [table]

variable (z : FVec Ideal S8192x8192 .f32)

/-- Where an entry of the greatest 32 is written: in its own row, at the order's column. -/
theorem lands (i : Fin 8192) (k : Fin 32) (r c : Fin 8192) :
    (scatter_S8192x8192_S8192x32x2_S8192x32_n_01_01_2).resultIdx? (ix2 i k)
        (table (Host.topK S8192x32 1 (FloatOps.cmpfTotal .gt) z sliceFits_S8192x8192_S8192x32).2) = some (ix2 r c)
      ↔ i = r ∧ Sorted.order z i ⟨k.val, by omega⟩ = c := by
  have column := Sorted.top_index (n := 32) (by omega) z sliceFits_S8192x8192_S8192x32 i k
  have first : (table (Host.topK S8192x32 1 (FloatOps.cmpfTotal .gt) z sliceFits_S8192x8192_S8192x32).2 (ix3 i k 0)).toInt = i.val := by
    rw [table_row, rowTable_apply, word_toInt _ i.isLt]
  have second : (table (Host.topK S8192x32 1 (FloatOps.cmpfTotal .gt) z sliceFits_S8192x8192_S8192x32).2 (ix3 i k 1)).toInt
      = (Sorted.order z i ⟨k.val, by omega⟩).val := by
    rw [table_column, columnTable_apply _ i k _ column, word_toInt _ (Fin.isLt _)]
  refine (Routing.scatter_lands2 _ rfl rfl rfl _ i k r c).trans ?_
  refine (and_congr (Eq.congr_left first) (Eq.congr_left second)).trans ?_
  rw [Fin.ext_iff, Fin.ext_iff]
  omega

open Classical in
/-- An entry of the matrix kept. -/
theorem kept_apply (r c : Fin 8192) :
    kept z (ix2 r c) = if ∃ k : Fin 32, Sorted.order z r ⟨k.val, by omega⟩ = c then z (ix2 r c) else ⊥ := by
  split
  · rename_i h
    obtain ⟨k, hk⟩ := h
    refine Routing.scatter_set_hit _ _ _ _ (ix2 r c) (z (ix2 r c)) ?_ (ix2 r k) ((lands z r k r c).2 ⟨rfl, hk⟩)
    intro u hu
    obtain ⟨i, k, rfl⟩ : ∃ (i : Fin 8192) (k : Fin 32), u = ix2 i k := ⟨u 0, u 1, by
      funext d
      fin_cases d <;> rfl⟩
    obtain ⟨rfl, hc⟩ := (lands z i k r c).1 hu
    rw [← hc]
    exact Sorted.top_value (n := 32) (by omega) z sliceFits_S8192x8192_S8192x32 i k
  · rename_i h
    refine (Routing.scatter_set_miss _ _ _ _ (ix2 r c) ?_).trans Terms.minus_infinity
    intro u hu
    obtain ⟨i, k, rfl⟩ : ∃ (i : Fin 8192) (k : Fin 32), u = ix2 i k := ⟨u 0, u 1, by
      funext d
      fin_cases d <;> rfl⟩
    obtain ⟨rfl, hc⟩ := (lands z i k r c).1 hu
    exact h ⟨k, hc⟩

end Cert.ReferenceIdeal.Row
-- ==== Proof.Mask.lean ====
module

public import proofs.«01_k».proof.Proof.Gen.On_top_32_separated
public import proofs.«01_k».proof.Proof.Merge
public import proofs.«01_k».proof.Proof.RefValue
public import proofs.«01_k».proof.Proof.Select
public import Idealize.ShloMosaic.Lib.IndicatorCount

/-!
# What the mask says of a row

Where it holds: a threshold of the bisection lies between the 32nd and the 33rd greatest attention value, at most four of the values that reach the 32nd lie in one lane, and no key's norm is zero.
-/

@[expose] public section

set_option maxRecDepth 16384

noncomputable section

namespace Cert.On_top_32_separated.Row

open Idealize.ShloMosaic Idealize.ShloMosaic.TcCoe Idealize.ShloMosaic.Tactic
open Cert.On_top_32_separated Cert.On_top_32_separated.Gen

variable (n : FVec Ideal S8192 .f32) (z : FVec Ideal S8192x8192 .f32)

/-- The greatest 33 of each row. -/
def top : FVec Ideal S8192x33 .f32 := (Host.topK S8192x33 1 (FloatOps.cmpfTotal .gt) z sliceFits_S8192x8192_S8192x33).1

/-- The bisection's last intervals, numbered from below: the one each of the 33 lies in. -/
def cells : FVec Ideal S8192x33 .f32 :=
  Host.floor (Host.divf (addf (top z) (broadcastInDim S8192x33 ![] bcast_S_S8192x33 (constant S_ .f32 0x3F828F5C#32)))
    (broadcastInDim S8192x33 ![] bcast_S_S8192x33
      (Host.divf (constant S_ .f32 0x3F828F5C#32) (constant S_ .f32 0x47800000#32))))

/-- Whether the 32nd lies in a higher one than the 33rd. -/
def apart : IVec S8192 1 :=
  cmpf .ogt
    (shapeCast S8192 (extractStridedSlice S8192x1 ![0, 31] (cells z) slices_S8192x33_S8192x1_0_31) shapeCasts_S8192x1_S8192)
    (shapeCast S8192 (extractStridedSlice S8192x1 ![0, 32] (cells z) slices_S8192x33_S8192x1_0_32) shapeCasts_S8192x1_S8192)

/-- The entries that reach the row's 32nd. -/
def reach : IVec S8192x8192 1 :=
  cmpf .oge z (broadcastInDim S8192x8192 ![0, 1] bcast_S8192x1_S8192x8192_0_1
    (extractStridedSlice S8192x1 ![0, 31] (top z) slices_S8192x33_S8192x1_0_31))

/-- The same as numbers, a row in 32 groups of 256 lanes. -/
def grouped : IVec S8192x32x256 32 :=
  shapeCast S8192x32x256 (extui 32 (reach z) natLt_1_32) shapeCasts_S8192x8192_S8192x32x256

/-- How many of them each lane holds. -/
def lanes : IVec S8192x256 32 :=
  Host.reduce IntOp.addi (grouped z) (constantI S_ 32 0#32) reducesTo_S8192x32x256_S8192x256_d1 h_S_

/-- The most that one lane holds. -/
def most : IVec S8192 32 :=
  Host.reduce IntOp.maxsi (lanes z) (constantI S_ 32 2147483648#32) reducesTo_S8192x256_S8192_d1 h_S_

/-- Whether that is at most four. -/
def few : IVec S8192 1 := cmpi .sle (most z) (broadcastInDim S8192 ![] bcast_S_S8192 (constantI S_ 32 4#32))

/-- The least norm. -/
def least : FVec Ideal S_ .f32 :=
  Host.reduce FloatOps.minimumf n (constant S_ .f32 0x7F800000#32) reducesTo_S8192_S_d0 h_S_

/-- Whether it is positive. -/
def positive : IVec S_ 1 := cmpf .ogt (least n) (constant S_ .f32 0x00000000#32)

/-- The three together, one per row. -/
def rows : IVec S8192 1 := andi (andi (apart z) (few z)) (broadcastInDim S8192 ![] bcast_S_S8192 (positive n))

/-- The mask says so of each entry of a row. -/
theorem fn_eq (x : FVec Ideal S8192x8 .f32) (w : FVec Ideal S7x7 .f32) (a : FVec Ideal S7 .f32) :
    fn (F := Ideal) x w a
      = broadcastInDim S8192x7 ![0, 1] bcast_S8192x1_S8192x7_0_1
          (broadcastInDim S8192x1 ![0] bcast_S8192_S8192x1_0
            (rows (Cert.ReferenceIdeal.Row.norms x) (Cert.ReferenceIdeal.Row.attention x))) := rfl

/-- Where a bit is both of two, it is each. -/
theorem both {a b : BitVec 1} (h : IntOp.andi a b = 1#1) : a = 1#1 ∧ b = 1#1 := by
  revert a b
  decide

/-- The mask at an entry gives each of the three at its row. -/
theorem parts (x : FVec Ideal S8192x8 .f32) (w : FVec Ideal S7x7 .f32) (a : FVec Ideal S7 .f32) (r : Fin 8192) (d : Fin 7)
    (h : fn (F := Ideal) x w a (ix2 r d) = 1#1) :
    apart (Cert.ReferenceIdeal.Row.attention x) (ix1 r) = 1#1 ∧ few (Cert.ReferenceIdeal.Row.attention x) (ix1 r) = 1#1
      ∧ positive (Cert.ReferenceIdeal.Row.norms x) ix0 = 1#1 := by
  rw [fn_eq] at h
  have h' : IntOp.andi (IntOp.andi (apart (Cert.ReferenceIdeal.Row.attention x) (ix1 r))
      (few (Cert.ReferenceIdeal.Row.attention x) (ix1 r))) (positive (Cert.ReferenceIdeal.Row.norms x) ix0) = 1#1 := by
    refine Eq.trans ?_ h
    pointwise [rows]
  obtain ⟨h1, h3⟩ := both h'
  exact ⟨(both h1).1, (both h1).2, h3⟩

/-- The greatest 33, along the row's order. -/
theorem top_apply (r : Fin 8192) (k : Fin 33) : top z (ix2 r k) = z (ix2 r (Sorted.order z r ⟨k.val, by omega⟩)) :=
  Sorted.top_value (n := 33) (by omega) z sliceFits_S8192x8192_S8192x33 r k

/-- The 32nd. -/
theorem top_last (r : Fin 8192) : top z (ix2 r 31) = z (ix2 r (Sorted.order z r ⟨31, by omega⟩)) := top_apply z r 31

/-- The 33rd. -/
theorem top_next (r : Fin 8192) : top z (ix2 r 32) = z (ix2 r (Sorted.order z r ⟨32, by omega⟩)) := top_apply z r 32

/-- The number of the interval that a value lies in. -/
def cell (v : EReal) : EReal :=
  Ideal.liftRound Int.floor (Ideal.div (v + Ideal.ofBits FTy.f32 0x3F828F5C#32)
    (Ideal.div (Ideal.ofBits FTy.f32 0x3F828F5C#32) (Ideal.ofBits FTy.f32 0x47800000#32)))

/-- The intervals of the 33. -/
theorem cells_apply (r : Fin 8192) (k : Fin 33) : cells z (ix2 r k) = cell (top z (ix2 r k)) := by
  unfold cell
  pointwise [cells]

/-- The 32nd lies in a higher interval than the 33rd. -/
theorem apart_iff (r : Fin 8192) (h : apart z (ix1 r) = 1#1) :
    cell (z (ix2 r (Sorted.order z r ⟨32, by omega⟩))) < cell (z (ix2 r (Sorted.order z r ⟨31, by omega⟩))) := by
  rw [← top_last z r, ← top_next z r, ← cells_apply, ← cells_apply]
  revert h
  pointwise [apart]
  intro h
  by_contra hc
  rw [decide_eq_false hc] at h
  exact absurd h (by decide)

/-- Whether an entry reaches the 32nd. -/
theorem reach_apply (r c : Fin 8192) :
    reach z (ix2 r c) = BitVec.ofBool (decide (z (ix2 r (Sorted.order z r ⟨31, by omega⟩)) ≤ z (ix2 r c))) := by
  rw [← top_last z r]
  pointwise [reach]

/-- The same, grouped. -/
theorem grouped_apply (r : Fin 8192) (g : Fin 32) (l : Fin 256) :
    grouped z (ix3 r g l) = (reach z (ix2 r ⟨256 * g.val + l.val, by omega⟩)).setWidth 32 := by
  pointwise [grouped]
  exact congrArg (fun c => (reach z (ix2 r c)).setWidth 32) (Fin.ext (by
    show g.val * 256 + l.val = 256 * g.val + l.val
    omega))

/-- A lane's count. -/
theorem lanes_apply (r : Fin 8192) (l : Fin 256) :
    lanes z (ix2 r l) = BitVec.ofNat 32 (Select.laneCount (fun j => z (ix2 r j)) l (z (ix2 r (Sorted.order z r ⟨31, by omega⟩)))) := by
  refine (Reduce.middle IntOp.addi (constantI S_ 32 0#32) h_S_ reducesTo_S8192x32x256_S8192x256_d1
    ⟨rfl, by decide, reducesTo_S8192x32x256_S8192x256_d1.2⟩ (grouped z) r l).trans ?_
  simp only [grouped_apply]
  refine (IndicatorCount.fold_addi_setWidth_eq_card (fun g : Fin 32 => reach z (ix2 r ⟨256 * g.val + l.val, by omega⟩)) Finset.univ).trans ?_
  refine congrArg (BitVec.ofNat 32) ?_
  rw [Finset.card_filter]
  unfold Select.laneCount
  refine Finset.sum_congr rfl fun g _ => ?_
  rw [reach_apply]
  unfold Merge.ge
  cases decide (z (ix2 r (Sorted.order z r ⟨31, by omega⟩)) ≤ z (ix2 r ⟨256 * g.val + l.val, by omega⟩)) <;> rfl

/-- The signed greater of two words is at most a third where both are. -/
theorem maxsi_le_iff (a b c : BitVec 32) :
    (IntOp.maxsi b c).toInt ≤ a.toInt ↔ b.toInt ≤ a.toInt ∧ c.toInt ≤ a.toInt := by
  unfold IntOp.maxsi
  rw [BitVec.slt_eq_decide]
  by_cases h : c.toInt < b.toInt
  · rw [if_pos (decide_eq_true h)]
    omega
  · rw [if_neg (by simpa using h)]
    omega

/-- A lane has 32 entries. -/
theorem laneCount_le (s : Fin 8192 → EReal) (l : Fin 256) (t : EReal) : Select.laneCount s l t ≤ 32 := by
  unfold Select.laneCount
  refine (Finset.sum_le_card_nsmul _ _ 1 fun g _ => Bool.toNat_le _).trans ?_
  simp

/-- No lane holds more than four. -/
theorem few_iff (r : Fin 8192) (h : few z (ix1 r) = 1#1) (l : Fin 256) :
    Select.laneCount (fun j => z (ix2 r j)) l (z (ix2 r (Sorted.order z r ⟨31, by omega⟩))) ≤ 4 := by
  have leq : (most z (ix1 r)).toInt ≤ (4#32).toInt := by
    revert h
    pointwise [few]
    intro h
    by_contra hc
    have bit : BitVec.ofBool ((most z (ix1 r)).sle 4#32) = 1#1 := h
    rw [BitVec.sle_eq_decide, decide_eq_false hc] at bit
    exact absurd bit (by decide)
  have fold : most z (ix1 r) = Finset.univ.fold IntOp.maxsi 2147483648#32 fun l : Fin 256 => lanes z (ix2 r l) :=
    Reduce.row IntOp.maxsi (constantI S_ 32 2147483648#32) h_S_ reducesTo_S8192x256_S8192_d1
      ⟨rfl, by decide, reducesTo_S8192x256_S8192_d1.2⟩ (lanes z) r
  rw [fold] at leq
  have each := ((Finset.fold_op_rel_iff_and (op := IntOp.maxsi (w := 32)) (r := fun a b => b.toInt ≤ a.toInt) (c := 4#32)
    (fun {a b c} => maxsi_le_iff a b c)).1 leq).2 l (Finset.mem_univ l)
  rw [lanes_apply] at each
  have small := laneCount_le (fun j => z (ix2 r j)) l (z (ix2 r (Sorted.order z r ⟨31, by omega⟩)))
  revert each
  generalize Select.laneCount _ _ _ = q at small
  intro each
  rw [BitVec.toInt_eq_toNat_of_lt (by rw [BitVec.toNat_ofNat]; omega), BitVec.toNat_ofNat,
    Nat.mod_eq_of_lt (by omega)] at each
  have : ((4#32 : BitVec 32).toInt) = 4 := by decide
  omega

/-- No norm is zero. -/
theorem positive_iff (h : positive n ix0 = 1#1) (j : Fin 8192) : 0 < n (ix1 j) := by
  have fold : least n ix0 = Finset.univ.fold min (Ideal.ofBits FTy.f32 0x7F800000#32) fun j : Fin 8192 => n (ix1 j) :=
    Reduce.whole (min : EReal → EReal → EReal) (constant (F := Ideal) S_ .f32 0x7F800000#32) h_S_ reducesTo_S8192_S_d0 n
  have less : 0 < least n ix0 := by
    revert h
    pointwise [positive]
    intro h
    by_contra hc
    rw [decide_eq_false hc] at h
    exact absurd h (by decide)
  rw [fold] at less
  exact ((Finset.lt_fold_min _).1 less).2 j (Finset.mem_univ j)

end Cert.On_top_32_separated.Row
-- ==== Proof.Equation.lean ====
module

public import proofs.«01_k».proof.Proof.KernelValue
public import proofs.«01_k».proof.Proof.Kept
public import proofs.«01_k».proof.Proof.Mask

/-!
# A row of the kernel is the row of the reference

Where the mask holds, the bisection's lower end selects the 32 columns the reference keeps, and both rows are the same
quotient of two real sums over them.
-/

@[expose] public section

set_option maxRecDepth 16384

noncomputable section

namespace Cert.Equation

open Idealize.ShloMosaic Idealize.ShloMosaic.TcCoe Idealize.ShloMosaic.Tactic
open Cert.KernelIdeal Cert.KernelIdeal.Gen Cert.KernelIdeal.Value Cert.KernelIdeal.Block

/-- The bits of 65536. -/
theorem count_bits : Ideal.ofBits FTy.f32 0x47800000#32 = ((65536 : ℝ) : EReal) := by
  simp [Ideal.ofBits, Ideal.ieee, -EReal.coe_mul]
  norm_num

/-- The number of the last interval that a real number lies in. -/
def cell (v : ℝ) : ℤ := ⌊(v + width) / (width / 65536)⌋

/-- The mask's number is that one. -/
theorem cell_coe (v : ℝ) : Cert.On_top_32_separated.Row.cell (v : EReal) = ((cell v : ℝ) : EReal) := by
  unfold Cert.On_top_32_separated.Row.cell
  rw [width_bits, count_bits, Cert.Softmax.div_coe width (by norm_num), ← EReal.coe_add,
    Cert.Softmax.div_coe _ (by unfold width; norm_num)]
  rfl

/-- The start of the interval a number lies in is above each number of a lower interval. -/
theorem below {u v l : ℝ} (a : ℤ) (ha : l = a * (width / 65536) - width) (h1 : l ≤ v) (h2 : v < l + width / 65536)
    (h : cell u < cell v) : u < l := by
  have hw : 0 < width / 65536 := by
    unfold width
    norm_num
  have e : cell v = a := by
    refine Int.floor_eq_iff.mpr ⟨(le_div_iff₀ hw).mpr (by linarith), (div_lt_iff₀ hw).mpr (by linarith)⟩
  rw [e] at h
  have := (div_lt_iff₀ hw).mp (Int.floor_lt.mp h)
  linarith

/-- What the mask says of a row of real attention values `s` in the order `o`. -/
structure Separated (s : Fin 8192 → ℝ) (o : Fin 8192 → Fin 8192) : Prop where
  bijective : Function.Bijective o
  antitone : ∀ i j : Fin 8192, i < j → s (o j) ≤ s (o i)
  apart : cell (s (o 32)) < cell (s (o 31))
  spread : ∀ l, Select.laneCount (fun j => (s j : EReal)) l (s (o 31) : EReal) ≤ 4
  low : ∀ j, -1 ≤ s j
  high : ∀ j, s j ≤ 1

variable {s : Fin 8192 → ℝ} {o : Fin 8192 → Fin 8192} (S : Separated s o)

include S in
/-- The bisection's lower end selects the first 32 columns of the order. -/
theorem selects (v3 : Vec Ideal S512x7 .f32) (v11 : Vec Ideal S7x8192 .f32) (p : Fin 512)
    (row : ∀ j, k0_pay4 v3 v11 (ix2 p j) = (s j : EReal)) (j : Fin 8192) :
    (bisect v3 v11).1 (ix2 p 0) ≤ k0_pay4 v3 v11 (ix2 p j) ↔ ∃ k : Fin 32, o ⟨k.val, by omega⟩ = j := by
  have counts : ∀ (l : Fin 256) (t : EReal), laneCount v3 v11 p l t = Select.laneCount (fun j => (s j : EReal)) l t := by
    intro l t
    unfold laneCount Select.laneCount
    refine Finset.sum_congr rfl fun g _ => ?_
    exact congrArg (fun x => (Merge.ge t x).toNat) (row _)
  have hw : (1 : ℝ) < width := by
    unfold width
    norm_num
  obtain ⟨l, h, hl, -, h1, h2, h3, a, ha⟩ := bisect_holds v3 v11 p (s (o 31))
    (fun t => by
      simp only [counts]
      exact Select.count_iff s o S.bijective S.antitone S.spread t)
    (by linarith [S.low (o 31)]) (by linarith [S.high (o 31)])
  rw [hl, row, EReal.coe_le_coe_iff]
  exact Select.selected_iff s o S.bijective S.antitone h1 (below a ha h1 (by linarith) S.apart) j

/-- A row of the mask, in real numbers. -/
theorem separated (x : Terms.Points) (w : Terms.Weights) (a : Terms.Scale) (r : Fin 8192) (d : Fin 7)
    (h : Cert.On_top_32_separated.fn (F := Ideal) x w a (ix2 r d) = 1#1) :
    ∃ s : Fin 8192 → ℝ, Separated s (Sorted.order (Cert.ReferenceIdeal.Row.attention x) r)
      ∧ (∀ j, Terms.att' x r j = (s j : EReal)) ∧ ∀ j, Cert.ReferenceIdeal.Row.attention x (ix2 r j) = (s j : EReal) := by
  obtain ⟨hapart, hfew, hpos⟩ := Cert.On_top_32_separated.Row.parts x w a r d h
  have norms : ∀ j, 0 < Terms.norm x j := fun j => by
    rw [← Cert.ReferenceIdeal.Row.norms_apply]
    exact Cert.On_top_32_separated.Row.positive_iff _ hpos j
  choose s hlow hhigh hs' hs using Terms.att_coe x norms r
  have att : ∀ j, Cert.ReferenceIdeal.Row.attention x (ix2 r j) = (s j : EReal) := fun j => by
    rw [Cert.ReferenceIdeal.Row.attention_apply, hs]
  refine ⟨s, ⟨Sorted.order_bijective _ r, fun i j hij => ?_, ?_, fun l => ?_, hlow, hhigh⟩, hs', att⟩
  · have := Sorted.order_antitone (Cert.ReferenceIdeal.Row.attention x) r i j hij
    rwa [att, att, EReal.coe_le_coe_iff] at this
  · have := Cert.On_top_32_separated.Row.apart_iff _ r hapart
    rwa [att, att, cell_coe, cell_coe, EReal.coe_lt_coe_iff, Int.cast_lt] at this
  · have := Cert.On_top_32_separated.Row.few_iff _ r hfew l
    simp only [att] at this
    exact this

open Classical in
/-- The row both programs compute. -/
def quotient (s : Fin 8192 → ℝ) (o : Fin 8192 → Fin 8192) (v : Fin 8192 → ℝ) : ℝ :=
  (∑ j, (if ∃ k : Fin 32, o ⟨k.val, by omega⟩ = j then Real.exp (s j) else 0) * v j)
    / ∑ j, (if ∃ k : Fin 32, o ⟨k.val, by omega⟩ = j then Real.exp (s j) else 0)

include S in
/-- The kernel's row. -/
theorem kernel_row (m : (ℓ : Loc nD τ sig) → Buf (Elt Ideal) ℓ) (c : Dev nD) (r : Fin 8192) (d : Fin 7)
    (row : ∀ j, Terms.att' (X m c) r j = (s j : EReal)) (v : Fin 8192 → ℝ)
    (hv : ∀ j, Terms.clipped (X m c) (W m c) (A m c) j d = (v j : EReal)) :
    G4 m c (ix2 r d) = (quotient s o v : EReal) := by
  classical
  have entry : ∀ j, k0_pay4 (rows m c ⟨r.val / 512, by omega⟩) (keysN m c) (ix2 ⟨r.val % 512, Nat.mod_lt _ (by decide)⟩ j)
      = (s j : EReal) := fun j => (att_apply m c r j).trans (row j)
  have chosen := selects S (rows m c ⟨r.val / 512, by omega⟩) (keysN m c) ⟨r.val % 512, Nat.mod_lt _ (by decide)⟩ entry
  simp only [entry] at chosen
  rw [result_apply, stored_apply]
  simp only [entry, chosen, values_apply, values_last, hv]
  exact Softmax.kernel_eq (fun j => ∃ k : Fin 32, o ⟨k.val, by omega⟩ = j) s v ⟨o 0, 0, rfl⟩

/-- The reference's row. -/
theorem reference_row (x : Terms.Points) (w : Terms.Weights) (a : Terms.Scale) (r : Fin 8192) (d : Fin 7)
    (row : ∀ j, Cert.ReferenceIdeal.Row.attention x (ix2 r j) = (s j : EReal))
    (v : Fin 8192 → ℝ) (hv : ∀ j, Terms.clipped x w a j d = (v j : EReal)) :
    Cert.ReferenceIdeal.Row.result x w a (ix2 r d)
      = (quotient s (Sorted.order (Cert.ReferenceIdeal.Row.attention x) r) v : EReal) := by
  classical
  rw [Cert.ReferenceIdeal.Row.result_apply]
  have chosen : ∃ j, ∃ k : Fin 32, Sorted.order (Cert.ReferenceIdeal.Row.attention x) r ⟨k.val, by omega⟩ = j :=
    ⟨Sorted.order (Cert.ReferenceIdeal.Row.attention x) r 0, 0, rfl⟩
  obtain ⟨M, hM⟩ : ∃ M, M = max ⊥ (Finset.univ.fold max ⊥ fun k =>
      Cert.ReferenceIdeal.Row.kept (Cert.ReferenceIdeal.Row.attention x) (ix2 r k)) := ⟨_, rfl⟩
  simp only [Cert.ReferenceIdeal.Row.softmax_apply _ r _ M hM, Cert.ReferenceIdeal.Row.kept_apply, row, hv]
  simp only [Cert.ReferenceIdeal.Row.kept_apply, row] at hM
  exact Softmax.reference_eq
    (fun j => ∃ k : Fin 32, Sorted.order (Cert.ReferenceIdeal.Row.attention x) r ⟨k.val, by omega⟩ = j) s v chosen M hM

/-- Where the mask holds, the two agree. -/
theorem equal (m : (ℓ : Loc nD τ sig) → Buf (Elt Ideal) ℓ) (c : Dev nD) (i : (⟨2, ![8192, 7]⟩ : Shape).Idx)
    (h : Cert.On_top_32_separated.fn (F := Ideal) (X m c) (W m c) (A m c) i = 1#1) :
    Cert.ReferenceIdeal.Row.result (X m c) (W m c) (A m c) i = G4 m c i := by
  obtain ⟨r, d, rfl⟩ : ∃ (r : Fin 8192) (d : Fin 7), i = ix2 r d := ⟨i 0, i 1, by
    funext q
    fin_cases q <;> rfl⟩
  obtain ⟨s, S, kernel, reference⟩ := separated _ _ _ r d h
  choose v hv using fun j => Terms.clipped_coe (X m c) (W m c) (A m c) j d
  exact (reference_row _ _ _ r d reference v hv).trans (kernel_row S m c r d kernel v hv).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_top_32_separated
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Where the mask holds, the kernel and the reference leave the same array. -/
theorem agree : Cert.algebraic_KernelIdeal_ReferenceIdeal_on_top_32_separated := by
  intro m g m' g' _ arguments
  refine ⟨fun c => Cert.KernelIdeal.Value.G4 m c, ?_, ?_⟩
  · refine (θ_run Cert.KernelIdeal.defs _ _).mono (fun r h c => ?_) (Cert.KernelIdeal.Value.run m g)
    exact ⟨fun i _ => congrFun (h c).1 i, (h c).2⟩
  · refine (θ_run Cert.ReferenceIdeal.defs _ _).mono (fun r h c => ?_) (Cert.ReferenceIdeal.Value.run (F := Ideal) m' g')
    refine ⟨fun i mask => (congrFun (h c).1 i).trans ?_, (h c).2⟩
    rw [Cert.ReferenceIdeal.Row.res_eq, (arguments c).1, (arguments c).2.1, (arguments c).2.2]
    exact Cert.Equation.equal m c i mask

/-- Everything claimed. -/
theorem claim : Cert.Claim := ⟨Cert.Kernel.Gen.facts, Cert.KernelIdeal.Gen.facts, Cert.ReferenceIdeal.Gen.facts,
  Cert.On_top_32_separated.Gen.facts,
  fun m ρ _ => Cert.Kernel.Gen.frame m ρ, fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ), trivial, agree⟩

end Cert.Proof

end
